-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![768, 512]⟩ ⟨2, ![768, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x512 : Shape := ⟨2, ![768, 512]⟩
abbrev S512 : Shape := ⟨1, ![512]⟩
abbrev S4x1x768 : Shape := ⟨3, ![4, 1, 768]⟩
abbrev S3 : Shape := ⟨1, ![3]⟩
abbrev S_ : Shape := ⟨0, ![]⟩
abbrev S768 : Shape := ⟨1, ![768]⟩
abbrev S1x1x768 : Shape := ⟨3, ![1, 1, 768]⟩
abbrev S1 : Shape := ⟨1, ![1]⟩
abbrev S1x768 : Shape := ⟨2, ![1, 768]⟩
abbrev S1x512 : Shape := ⟨2, ![1, 512]⟩
abbrev S4x768 : Shape := ⟨2, ![4, 768]⟩
abbrev S768x1 : Shape := ⟨2, ![768, 1]⟩

abbrev nBuf : Space → Nat
  | .hbm => 3
  | .vmem => 4
  | .smem => 0
  | _ => 0

abbrev bufTy : (tb : Table) → Fin (tcTables nBuf tb) → BufTy
  | .hbm, ⟨0, _⟩ => ⟨S768x512, .bf16⟩
  | .hbm, ⟨1, _⟩ => ⟨S512, .bf16⟩
  | .hbm, ⟨2, _⟩ => ⟨S768x512, .f32⟩
  | .local _ .vmem, ⟨0, _⟩ => ⟨S768x512, .bf16⟩
  | .local _ .vmem, ⟨1, _⟩ => ⟨S512, .bf16⟩
  | .local _ .vmem, ⟨2, _⟩ => ⟨S768x512, .f32⟩
  | .local _ .vmem, ⟨3, _⟩ => ⟨S4x1x768, .f32⟩
  | _, _ => ⟨S768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v24 : BitVec 32 := Scalar.addi v2 c1_i32_17
  let c4_i32_18 : BitVec 32 := 4#32
  let v25 : BitVec 32 := Scalar.remsi v24 c4_i32_18
  let c1_i32_23 : BitVec 32 := 1#32
  let v26 : BitVec 32 := Scalar.muli v25 c1_i32_23
  let v27 : BitVec 32 := Scalar.addi c0_i32_24 v26
  v27.toNat
def k0_dev5 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_29 : BitVec 32 := 2#32
  let v36 : BitVec 32 := Scalar.addi v2 c2_i32_29
  let c4_i32_30 : BitVec 32 := 4#32
  let v37 : BitVec 32 := Scalar.remsi v36 c4_i32_30
  let c1_i32_35 : BitVec 32 := 1#32
  let v38 : BitVec 32 := Scalar.muli v37 c1_i32_35
  let v39 : BitVec 32 := Scalar.addi c0_i32_36 v38
  v39.toNat
def k0_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_41 : BitVec 32 := 3#32
  let v48 : BitVec 32 := Scalar.addi v2 c3_i32_41
  let c4_i32_42 : BitVec 32 := 4#32
  let v49 : BitVec 32 := Scalar.remsi v48 c4_i32_42
  let c1_i32_47 : BitVec 32 := 1#32
  let v50 : BitVec 32 := Scalar.muli v49 c1_i32_47
  let v51 : BitVec 32 := Scalar.addi c0_i32_48 v50
  v51.toNat
abbrev stage0_0 : Fin 1 → Memref sig .tc .vmem S768x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S768x2048 : Shape := ⟨2, ![768, 2048]⟩
abbrev S2048 : Shape := ⟨1, ![2048]⟩
abbrev S_ : Shape := ⟨0, ![]⟩
abbrev S768 : Shape := ⟨1, ![768]⟩
abbrev S768x1 : Shape := ⟨2, ![768, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S768x2048, .bf16⟩
  | .hbm, ⟨1, _⟩ => ⟨S2048, .bf16⟩
  | .hbm, ⟨2, _⟩ => ⟨S768x2048, .f32⟩
  | .hbm, ⟨3, _⟩ => ⟨S2048, .f32⟩
  | .hbm, ⟨4, _⟩ => ⟨S768x2048, .f32⟩
  | .hbm, ⟨5, _⟩ => ⟨S_, .f32⟩
  | .hbm, ⟨6, _⟩ => ⟨S768, .f32⟩
  | .hbm, ⟨7, _⟩ => ⟨S768x1, .f32⟩
  | .hbm, ⟨8, _⟩ => ⟨S_, .f32⟩
  | .hbm, ⟨9, _⟩ => ⟨S768x1, .f32⟩
  | .hbm, ⟨10, _⟩ => ⟨S768x1, .f32⟩
  | .hbm, ⟨11, _⟩ => ⟨S_, .f32⟩
  | .hbm, ⟨12, _⟩ => ⟨S768x1, .f32⟩
  | .hbm, ⟨13, _⟩ => ⟨S768x1, .f32⟩
  | .hbm, ⟨14, _⟩ => ⟨S768x1, .f32⟩
  | .hbm, ⟨15, _⟩ => ⟨S1x2048, .f32⟩
  | .hbm, ⟨16, _⟩ => ⟨S768x2048, .f32⟩
  | .hbm, ⟨17, _⟩ => ⟨S768x2048, .f32⟩
  | .hbm, ⟨18, _⟩ => ⟨S768x2048, .f32⟩
  | .hbm, ⟨19, _⟩ => ⟨S768x2048, .f32⟩
  | _, _ => ⟨S768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.KiProtocol.lean ====
/-
# The exchange of partial sums: rows, cells, what each transfer hands over

Each of the four devices keeps a buffer of four rows. Row 0 holds its own sums of squares; row `r` (1, 2, 3) is
filled by the device `r` places after it. On entry every device tells the three others, on the barrier semaphore,
that its rows may be written; having heard from all three it stores its own sums in row 0 and sends that row to the
three others. This module names the rows and the cells of this exchange and states its schedule (Lib/Rounds.lean):
one round; a barrier cell has three duties of one unit, each handing over a row of a peer; a send cell hands back a
share of row 0; a receive cell hands over a row filled.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds' resources of the exchange, whose duties are numbered 0, 1, 2; -/
abbrev UX : Type := URounds (GSem nD τ sig) (Fin 3)
/-- beside the staging pipeline's. -/
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-! ## Devices -/

set_option backward.proofsInPublic true in
/-- The device `r` places after `c`. -/
def rot (c : Dev nD) (r : Fin 4) : Dev nD := ⟨(c.val + r.val) % 4, Nat.mod_lt _ (by decide)⟩

/-- The `j`-th peer of `c`: the device `j + 1` places after it. -/
abbrev peer (c : Dev nD) (j : Fin 3) : Dev nD := rot c j.succ

theorem rot_zero (c : Dev nD) : rot c 0 = c := by revert c; decide
/-- `c` is a peer of its `j`-th peer, by the mirrored number. -/
theorem peer_rev (c : Dev nD) (j : Fin 3) : peer (peer c j) j.rev = c := by revert c j; decide
theorem peer_rev' (c : Dev nD) (j : Fin 3) : peer (peer c j.rev) j = c := by revert c j; decide
theorem peer_eq_iff (c d : Dev nD) (j : Fin 3) : peer d j = c ↔ d = peer c j.rev := by revert c d j; decide
/-- Going to a peer and numbering from there is undone by doing it again. -/
theorem swap_swap (x : Dev nD × Fin 3) : (peer (peer x.1 x.2) x.2.rev, x.2.rev.rev) = x := by revert x; decide
/-- The pairs (device, peer number) seen from the other end. -/
def swap : Dev nD × Fin 3 ≃ Dev nD × Fin 3 :=
  ⟨fun x => (peer x.1 x.2, x.2.rev), fun x => (peer x.1 x.2, x.2.rev), swap_swap, swap_swap⟩

/-- The device numbers the kernel computes are the peers'. -/
theorem dev1_eq (c : Dev nD) : (⟨k0_dev1 c, k0_dev1_lt c⟩ : Dev nD) = peer c 0 := Fin.ext (k0_dev1_eq c)
theorem dev2_eq (c : Dev nD) : (⟨k0_dev2 c, k0_dev2_lt c⟩ : Dev nD) = peer c 1 := Fin.ext (k0_dev2_eq c)
theorem dev3_eq (c : Dev nD) : (⟨k0_dev3 c, k0_dev3_lt c⟩ : Dev nD) = peer c 2 := Fin.ext (k0_dev3_eq c)
theorem dev4_eq (c : Dev nD) : (⟨k0_dev4 c, k0_dev4_lt c⟩ : Dev nD) = peer c 0 := Fin.ext (k0_dev4_eq c)
theorem dev5_eq (c : Dev nD) : (⟨k0_dev5 c, k0_dev5_lt c⟩ : Dev nD) = peer c 1 := Fin.ext (k0_dev5_eq c)
theorem dev6_eq (c : Dev nD) : (⟨k0_dev6 c, k0_dev6_lt c⟩ : Dev nD) = peer c 2 := Fin.ext (k0_dev6_eq c)

/-! ## Rows -/

abbrev xM : Memref sig .tc .vmem S768x512 .bf16 := Memref.whole cc0_stg0_0
abbrev gM : Memref sig .tc .vmem S512 .bf16 := Memref.whole cc0_stg1_0
abbrev oM : Memref sig .tc .vmem S768x512 .f32 := Memref.whole cc0_stg2_0
/-- The buffer of four rows. -/
abbrev rM : Memref sig .tc .vmem S4x1x768 .f32 := Memref.whole cc0_scratch0

theorem row_inb (r : Fin 4) : ∀ a, (![r.val, 0, 0] : Fin 3 → ℕ) a + S1x1x768.size a ≤ S4x1x768.size a := by revert r; decide

/-- The rectangle of row `r`. -/
abbrev rowR (r : Fin 4) : Rect S4x1x768 := Rect.unit (s := S4x1x768) ![r.val, 0, 0] S1x1x768.size (row_inb r)

/-- Row `r` as the transfers name it. -/
abbrev rowM (r : Fin 4) : Memref sig .tc .vmem S1x768 .f32 :=
  (rM.slice (rowR r) (fun _ => rfl)).squeeze S1x768 squeezes_S1x1x768_S1x768

/-- The elements of row `r`: those of first coordinate `r`. -/
def rowSet (r : Fin 4) : Finset S4x1x768.Idx := Finset.univ.filter fun i => (i (0 : Fin 3)).val = r.val

theorem mem_rowSet {r : Fin 4} {i : S4x1x768.Idx} : i ∈ rowSet r ↔ (i (0 : Fin 3)).val = r.val := by
  unfold rowSet; rw [Finset.mem_filter]; exact ⟨fun h => h.2, fun h => ⟨Finset.mem_univ _, h⟩⟩

theorem rowR_set (r : Fin 4) : (rowR r).set = rowSet r := by
  ext i
  rw [mem_rowSet, Rect.mem_set_unit]
  have b1 : (i (1 : Fin 3)).val < 1 := (i (1 : Fin 3)).isLt
  have b2 : (i (2 : Fin 3)).val < 768 := (i (2 : Fin 3)).isLt
  constructor
  · intro h
    have h' : r.val ≤ (i (0 : Fin 3)).val ∧ (i (0 : Fin 3)).val < r.val + 1 := h (0 : Fin 3)
    omega
  · intro h a
    match a with
    | ⟨0, _⟩ => show r.val ≤ (i (0 : Fin 3)).val ∧ (i (0 : Fin 3)).val < r.val + 1; omega
    | ⟨1, _⟩ => show 0 ≤ (i (1 : Fin 3)).val ∧ (i (1 : Fin 3)).val < 0 + 1; omega
    | ⟨2, _⟩ => show 0 ≤ (i (2 : Fin 3)).val ∧ (i (2 : Fin 3)).val < 0 + 768; omega

/-- Row `r` as the transfers name it is on the elements of row `r`. -/
theorem rowM_set (r : Fin 4) : (rowM r).view.set = rowSet r := by
  rw [← rowR_set]
  exact (Memref.set_view_squeeze _ _).trans (View.set_slice_whole _ _)

/-- Different rows share no element, -/
theorem rowSet_disjoint (r r' : Fin 4) (h : r ≠ r') : Disjoint (rowSet r) (rowSet r') :=
  Finset.disjoint_left.mpr fun i hi hi' => h (Fin.ext ((mem_rowSet.mp hi).symm.trans (mem_rowSet.mp hi')))

/-- and the four are the whole buffer. -/
theorem rowSet_union : Finset.univ.biUnion rowSet = Finset.univ := by
  ext i
  simp only [Finset.mem_biUnion, Finset.mem_univ, true_and, iff_true]
  exact ⟨⟨(i (0 : Fin 3)).val, (i (0 : Fin 3)).isLt⟩, mem_rowSet.mpr rfl⟩

/-- Where the `y`-th element of the rectangle of row `r` lies. -/
theorem rowR_emb (r : Fin 4) (y : S1x1x768.Idx) :
    ((rowR r).emb y (0 : Fin 3)).val = r.val ∧ ((rowR r).emb y (2 : Fin 3)).val = (y (2 : Fin 3)).val := by
  have b0 : (y (0 : Fin 3)).val < 1 := (y (0 : Fin 3)).isLt
  constructor
  · show r.val + 1 * (y (0 : Fin 3)).val = r.val; omega
  · show 0 + 1 * (y (2 : Fin 3)).val = (y (2 : Fin 3)).val; omega

/-! ## Contents -/

/-- The block of `x` device `c` stages, -/
def xstg (c : Dev nD) : (cc0_stg0_0 : Ref sig .tc).ty.Contents (Elt F) :=
  (win0_0.blk (0 : Fin 1)).view.read (Elt F) (m ((c : Thread nD τ).loc main_arg0))
/-- its block of `gamma`, -/
def gstg (c : Dev nD) : (cc0_stg1_0 : Ref sig .tc).ty.Contents (Elt F) :=
  (win0_1.blk (0 : Fin 1)).view.read (Elt F) (m ((c : Thread nD τ).loc main_arg1))

/-- the four rows when all transfers have landed: row `r` holds the sums of squares of the device `r` places after `c`, -/
def rows (c : Dev nD) : (cc0_scratch0 : Ref sig .tc).ty.Contents (Elt F) :=
  fun (i : S4x1x768.Idx) => k0_pay3 (xstg m (rot c (i (0 : Fin 3)))) (fun | ⟨0, _⟩ => (0 : Fin 1) | ⟨1, _⟩ => (0 : Fin 1) | ⟨2, _⟩ => i (2 : Fin 3))

/-- and the block of the result. -/
def outAt (c : Dev nD) : (cc0_stg2_0 : Ref sig .tc).ty.Contents (Elt F) :=
  k0_pay1 (k0_pay4 (k0_pay2 (xstg m c)) (gstg m c)) (rows m c)

/-- Equal row origin and equal column: equal element. -/
theorem rows_congr {c c' : Dev nD} {i i' : S4x1x768.Idx} (h0 : rot c (i (0 : Fin 3)) = rot c' (i' (0 : Fin 3)))
    (h2 : (i (2 : Fin 3)).val = (i' (2 : Fin 3)).val) : rows m c i = rows m c' i' := by
  unfold rows
  rw [h0, show i (2 : Fin 3) = i' (2 : Fin 3) from Fin.ext h2]

/-- Storing the sums of squares in row 0 makes it what `rows` says. -/
theorem store_row0 (c : Dev nD) (f : (cc0_scratch0 : Ref sig .tc).ty.Contents (Elt F)) :
    ∀ i ∈ rowSet 0, (rM.access (rowR 0) : View sig .tc _ _ _).write (Elt F) f (k0_pay3 (xstg m c)) Finset.univ i = rows m c i := by
  intro i hi
  rw [← rowR_set 0, ← View.set_slice_whole cc0_scratch0] at hi
  obtain ⟨y, -, rfl⟩ := Finset.mem_map.mp hi
  refine (View.write_emb_of_mem (v := (rM.access (rowR 0) : View sig .tc _ _ _)) (Val := Elt F) f _ (Finset.mem_univ y)).trans ?_
  obtain ⟨h0, h2⟩ := rowR_emb 0 y
  unfold rows
  show k0_pay3 (xstg m c) y = k0_pay3 (xstg m (rot c ((rowR 0).emb y (0 : Fin 3)))) _
  rw [show (rowR 0).emb y (0 : Fin 3) = (0 : Fin 4) from Fin.ext h0, rot_zero]
  congr 1
  funext a
  match a with
  | ⟨0, _⟩ => exact Subsingleton.elim (α := Fin 1) _ _
  | ⟨1, _⟩ => exact Subsingleton.elim (α := Fin 1) _ _
  | ⟨2, _⟩ => exact Fin.ext h2.symm

/-- What a transfer of row 0 of `c` leaves in the row of its `i`-th peer it writes is what `rows` says of that peer. -/
theorem landed_row (c : Dev nD) (i : Fin 3) (f : (cc0_scratch0 : Ref sig .tc).ty.Contents (Elt F)) :
    ∀ x ∈ rowSet i.rev.succ, (rowM i.rev.succ).view.write (Elt F) f ((rowM 0).view.read (Elt F) (rows m c)) Finset.univ x
      = rows m (peer c i) x := by
  intro x hx
  rw [← rowM_set] at hx
  obtain ⟨y, -, rfl⟩ := Finset.mem_map.mp hx
  refine (View.write_emb_of_mem (v := (rowM i.rev.succ).view) (Val := Elt F) f _ (Finset.mem_univ y)).trans ?_
  rw [View.read_apply]
  have h := rowR_emb i.rev.succ (Shape.reshapeEquiv squeezes_S1x1x768_S1x768.numel_eq y)
  have h' := rowR_emb 0 (Shape.reshapeEquiv squeezes_S1x1x768_S1x768.numel_eq y)
  refine rows_congr m ?_ (h'.2.trans h.2.symm)
  show rot c ((rowR 0).emb (Shape.reshapeEquiv squeezes_S1x1x768_S1x768.numel_eq y) (0 : Fin 3))
    = rot (peer c i) ((rowR i.rev.succ).emb (Shape.reshapeEquiv squeezes_S1x1x768_S1x768.numel_eq y) (0 : Fin 3))
  rw [show (rowR 0).emb _ (0 : Fin 3) = (0 : Fin 4) from Fin.ext h'.1, rot_zero,
    show (rowR i.rev.succ).emb _ (0 : Fin 3) = i.rev.succ from Fin.ext h.1]
  exact (peer_rev c i).symm

/-! ## Cells -/

/-- The barrier semaphore, the send semaphores and the receive semaphores. -/
abbrev barS : Sem sig := (SemArray.scalar (sig.barrier 0 rfl) : Sems sig S_).sem
theorem sem_inb (j : Fin 3) : ∀ a, (![j.val] : Fin 1 → ℕ) a + S1.size a ≤ S3.size a := by revert j; decide
abbrev sendS (j : Fin 3) : DmaSem sig :=
  ((cc0_scratch1.slice (Rect.unit (s := S3) ![j.val] S1.size (sem_inb j)) : DmaSems sig S1).squeeze S_ squeezes_S1_S_ : DmaSems sig S_).sem
abbrev recvS (j : Fin 3) : DmaSem sig :=
  ((cc0_scratch2.slice (Rect.unit (s := S3) ![j.val] S1.size (sem_inb j)) : DmaSems sig S1).squeeze S_ squeezes_S1_S_ : DmaSems sig S_).sem

/-- What a cell of the exchange is for. -/
inductive Role | bar | send (j : Fin 3) | recv (j : Fin 3)
  deriving DecidableEq

/-- The seven cells of a device by number: the barrier, the sends, the receives. -/
def role : Fin 7 → Role
  | 0 => .bar | 1 => .send 0 | 2 => .send 1 | 3 => .send 2 | 4 => .recv 0 | 5 => .recv 1 | 6 => .recv 2

/-- The semaphore of a role, -/
abbrev semOf : Role → SemLoc sig
  | .bar => .reg barS | .send j => .dma (sendS j) | .recv j => .dma (recvS j)
/-- and the role of a semaphore, if any. -/
def roleOf (s : SemLoc sig) : Option Role :=
  if s = .reg barS then some .bar
  else if s = .dma (sendS 0) then some (.send 0) else if s = .dma (sendS 1) then some (.send 1) else if s = .dma (sendS 2) then some (.send 2)
  else if s = .dma (recvS 0) then some (.recv 0) else if s = .dma (recvS 1) then some (.recv 1) else if s = .dma (recvS 2) then some (.recv 2)
  else none

theorem roleOf_bar : roleOf (semOf .bar) = some .bar := by decide
theorem roleOf_send (j : Fin 3) : roleOf (semOf (.send j)) = some (.send j) := by revert j; decide
theorem roleOf_recv (j : Fin 3) : roleOf (semOf (.recv j)) = some (.recv j) := by revert j; decide
theorem roleOf_semOf (r : Role) : roleOf (semOf r) = some r := by
  cases r with
  | bar => exact roleOf_bar
  | send j => exact roleOf_send j
  | recv j => exact roleOf_recv j
theorem semOf_inj {r r' : Role} (h : semOf r = semOf r') : r = r' :=
  Option.some.inj ((roleOf_semOf r).symm.trans ((congrArg roleOf h).trans (roleOf_semOf r')))
theorem role_inj {k k' : Fin 7} (h : role k = role k') : k = k' := by revert k k'; decide

/-- The cell of role `r` on device `c`. -/
abbrev cell (c : Dev nD) (r : Role) : GSem nD τ sig := ((c : Thread nD τ), semOf r)
theorem cell_inj {c c' : Dev nD} {r r' : Role} (h : cell c r = cell c' r') : c = c' ∧ r = r' :=
  ⟨by have := congrArg (fun g : GSem nD τ sig => g.1.1) h; exact this, semOf_inj (congrArg Prod.snd h)⟩
theorem cell_eq_iff {c c' : Dev nD} {r r' : Role} : cell c r = cell c' r' ↔ c = c' ∧ r = r' :=
  ⟨cell_inj, fun h => by rw [h.1, h.2]⟩

/-- The units one transferred row is worth. -/
abbrev N : ℕ := (rowM 0).view.dmaCredit
theorem N_pos : 0 < N := View.dmaCredit_pos _ (by decide)
theorem rowM_credit (r : Fin 4) (j : DmaSem sig) : (rowM r).view.amount (.dma j) = N := rfl

/-! ## Assertions about rows -/

/-- Row `r` of device `c` held at share `q` with contents `f`. -/
def rowPts (c : Dev nD) (r : Fin 4) (q : PosShare TreeShare) (f : (cc0_scratch0 : Ref sig .tc).ty.Contents (Elt F)) : sProp 𝕄 :=
  ((c : Thread nD τ).loc cc0_scratch0) ↦[rowSet r]{q} (f : Buf (Elt F) ((c : Thread nD τ).loc cc0_scratch0))

instance rowPts_storable (c : Dev nD) (r : Fin 4) (q) (f) : BI.Storable (upEmb : UEmb _ 𝕄) (rowPts (F := F) c r q f) := by
  unfold rowPts; infer_instance

/-- The whole buffer is its four rows. -/
theorem rows_split (c : Dev nD) (f : (cc0_scratch0 : Ref sig .tc).ty.Contents (Elt F)) :
    (((c : Thread nD τ).loc cc0_scratch0) ↦{fullShare} (f : Buf (Elt F) ((c : Thread nD τ).loc cc0_scratch0)) : sProp 𝕄)
      = iprop(rowPts c 0 fullShare f ∗ rowPts c 1 fullShare f ∗ rowPts c 2 fullShare f ∗ rowPts c 3 fullShare f) := by
  have h := pointsTo_biUnion (Ix := Unit) (Name := ℕ) (U := UU) (Lvl := ℕ) (ℓ := (c : Thread nD τ).loc cc0_scratch0) (q := fullShare)
    (f := (f : Buf (Elt F) ((c : Thread nD τ).loc cc0_scratch0))) Finset.univ rowSet (fun r _ r' _ hne => rowSet_disjoint r r' hne)
  rw [rowSet_union] at h
  refine h.trans ?_
  rw [bigSep_univ_eq_bigSepL [0, 1, 2, 3] (by decide) (by decide)]
  rfl

/-- A row at equal contents. -/
theorem rowPts_congr (c : Dev nD) (r : Fin 4) (q) {f g : (cc0_scratch0 : Ref sig .tc).ty.Contents (Elt F)} (h : ∀ i ∈ rowSet r, f i = g i) :
    (rowPts c r q f : sProp 𝕄) = rowPts c r q g := by
  unfold rowPts; exact pointsTo_congr h

/-- The three shares of row 0 lent to the three transfers. -/
abbrev third : Fin 3 → PosShare TreeShare
  | 0 => fullShare.left | 1 => fullShare.right.left | 2 => fullShare.right.right

/-- The full share of a row is the three. -/
theorem thirds (c : Dev nD) (r : Fin 4) (f : (cc0_scratch0 : Ref sig .tc).ty.Contents (Elt F)) :
    (rowPts c r fullShare f : sProp 𝕄) ⊣⊢ iprop(rowPts c r (third 0) f ∗ rowPts c r (third 1) f ∗ rowPts c r (third 2) f) := by
  unfold rowPts
  have h1 := pointsTo_share (Ix := Unit) (Name := ℕ) (U := UU) (Lvl := ℕ) (ℓ := (c : Thread nD τ).loc cc0_scratch0) (I := rowSet r)
    (f := (f : Buf (Elt F) ((c : Thread nD τ).loc cc0_scratch0))) (PosShare.mem_left_op_right fullShare)
  have h2 := pointsTo_share (Ix := Unit) (Name := ℕ) (U := UU) (Lvl := ℕ) (ℓ := (c : Thread nD τ).loc cc0_scratch0) (I := rowSet r)
    (f := (f : Buf (Elt F) ((c : Thread nD τ).loc cc0_scratch0))) (PosShare.mem_left_op_right fullShare.right)
  exact ⟨h1.1.trans (sep_mono_right h2.1), (sep_mono_right h2.2).trans h1.2⟩

/-! ## The schedule -/

/-- What duty `i` of `c`'s barrier hands over: the row of its `i`-th peer that `c`'s `i`-th transfer writes. -/
def barPay (c : Dev nD) (i : Fin 3) : sProp 𝕄 := iprop(∃ f, rowPts (peer c i) i.rev.succ fullShare f)
/-- What `c`'s `i`-th transfer gives back once read: the share of row 0 lent to it. -/
def sendPay (c : Dev nD) (i : Fin 3) : sProp 𝕄 := rowPts c 0 (third i) (rows m c)
/-- What arriving in row `j + 1` of `c` hands over: that row, filled. -/
def recvPay (c : Dev nD) (j : Fin 3) : sProp 𝕄 := rowPts c j.succ fullShare (rows m c)

instance barPay_storable (c i) : BI.Storable (upEmb : UEmb _ 𝕄) (barPay (F := F) c i) := by unfold barPay; infer_instance
instance sendPay_storable (c i) : BI.Storable (upEmb : UEmb _ 𝕄) (sendPay (F := F) m c i) := by unfold sendPay; infer_instance
instance recvPay_storable (c i) : BI.Storable (upEmb : UEmb _ 𝕄) (recvPay (F := F) m c i) := by unfold recvPay; infer_instance

/-- The role a cell has, on a TensorCore only. -/
def cellRole (g : GSem nD τ sig) : Option Role := if g.1.2 = .tc then roleOf g.2 else none
theorem cellRole_cell (c : Dev nD) (r : Role) : cellRole (cell c r) = some r := by
  unfold cellRole; rw [if_pos rfl]; exact roleOf_semOf r

def dutiesOf : Option Role → Finset (Fin 3)
  | some .bar => Finset.univ | some (.send _) => {0} | some (.recv _) => {0} | none => ∅
def amountOf : Option Role → ℕ
  | some .bar => 1 | some (.send _) => N | some (.recv _) => N | none => 1
def payOf (c : Dev nD) (d : Fin 3) : Option Role → sProp 𝕄
  | some .bar => barPay c d | some (.send i) => sendPay m c i | some (.recv j) => recvPay m c j | none => iprop(emp)

theorem amountOf_pos (o : Option Role) : 0 < amountOf o := by
  match o with
  | some .bar => exact Nat.one_pos
  | some (.send _) => exact N_pos
  | some (.recv _) => exact N_pos
  | none => exact Nat.one_pos

/-- One round. A barrier cell has three duties of one unit, a send or a receive cell one of a row's worth. -/
def Xd : Rounds.Schedule (GSem nD τ sig) (Fin 3) 𝕄 where
  duties g r := if r = 0 then dutiesOf (cellRole g) else ∅
  unitless _ := False
  amount g _ _ := amountOf (cellRole g)
  payload g _ d := payOf m g.1.1 d (cellRole g)
  amount_pos g _ _ _ := amountOf_pos _

instance payOf_storable (c : Dev nD) (d : Fin 3) (o : Option Role) : BI.Storable (upEmb : UEmb _ 𝕄) (payOf (F := F) m c d o) := by
  match o with
  | some .bar => exact barPay_storable c d
  | some (.send i) => exact sendPay_storable m c i
  | some (.recv j) => exact recvPay_storable m c j
  | none => unfold payOf; infer_instance

instance Xd_payload_storable (g : GSem nD τ sig) (r : ℕ) (d : Fin 3) : BI.Storable (upEmb : UEmb _ 𝕄) ((Xd (F := F) m).payload g r d) :=
  payOf_storable m g.1.1 d (cellRole g)

section Tables
variable (c : Dev nD)

theorem duties_cell (r : Role) : (Xd (F := F) m).duties (cell c r) 0 = dutiesOf (some r) := by
  show (if (0 : ℕ) = 0 then dutiesOf (cellRole (cell c r)) else ∅) = _
  rw [if_pos rfl, cellRole_cell]
theorem amount_cell (r : Role) (d : Fin 3) : (Xd (F := F) m).amount (cell c r) 0 d = amountOf (some r) := by
  show amountOf (cellRole (cell c r)) = _
  rw [cellRole_cell]
theorem payload_cell (r : Role) (d : Fin 3) : (Xd (F := F) m).payload (cell c r) 0 d = payOf m c d (some r) := by
  show payOf m c d (cellRole (cell c r)) = _
  rw [cellRole_cell]
theorem duties_later (g : GSem nD τ sig) : ∀ r, 1 ≤ r → (Xd (F := F) m).duties g r = ∅ :=
  fun r hr => if_neg (by omega)

theorem expect_bar : (Xd (F := F) m).expect (cell c .bar) 0 = 3 := by
  unfold Schedule.expect Schedule.amountOf
  rw [duties_cell, Finset.sum_congr rfl fun d _ => amount_cell m c .bar d]; rfl
theorem expect_send (j : Fin 3) : (Xd (F := F) m).expect (cell c (.send j)) 0 = N := by
  unfold Schedule.expect Schedule.amountOf
  rw [duties_cell, Finset.sum_congr rfl fun d _ => amount_cell m c (.send j) d]; exact Finset.sum_singleton _ _
theorem expect_recv (j : Fin 3) : (Xd (F := F) m).expect (cell c (.recv j)) 0 = N := by
  unfold Schedule.expect Schedule.amountOf
  rw [duties_cell, Finset.sum_congr rfl fun d _ => amount_cell m c (.recv j) d]; exact Finset.sum_singleton _ _

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- All of a barrier's round: the three rows. -/
theorem rest_bar : bigSep ((Xd (F := F) m).duties (cell c .bar) 0 \ ∅) (fun d => (Xd (F := F) m).payload (cell c .bar) 0 d)
    = iprop(barPay c 0 ∗ barPay c 1 ∗ barPay c 2) := by
  rw [Finset.sdiff_empty, duties_cell]
  show bigSep Finset.univ _ = _
  rw [bigSep_fin3, payload_cell, payload_cell, payload_cell]; rfl
theorem rest_send (j : Fin 3) : bigSep ((Xd (F := F) m).duties (cell c (.send j)) 0 \ ∅) (fun d => (Xd (F := F) m).payload (cell c (.send j)) 0 d)
    = sendPay m c j := by
  rw [Finset.sdiff_empty, duties_cell]
  show bigSep {0} _ = _
  rw [bigSep_singleton, payload_cell]; rfl
theorem rest_recv (j : Fin 3) : bigSep ((Xd (F := F) m).duties (cell c (.recv j)) 0 \ ∅) (fun d => (Xd (F := F) m).payload (cell c (.recv j)) 0 d)
    = recvPay m c j := by
  rw [Finset.sdiff_empty, duties_cell]
  show bigSep {0} _ = _
  rw [bigSep_singleton, payload_cell]; rfl

end Tables

/-! ## What a device owes, and the levels -/

/-- The transfers `c` owes its peers' receive cells, the first summed last; -/
def owedRecv (c : Dev nD) (i : Fin 3) : CellTallies nD τ sig Unit := tallyAt (cell (peer c i) (.recv i.rev)) () N
def owedBar (c : Dev nD) (i : Fin 3) : CellTallies nD τ sig Unit := tallyAt (cell (peer c i) .bar) () 1
def OX (c : Dev nD) : CellTallies nD τ sig Unit := 0 + owedRecv c 2 + owedRecv c 1 + owedRecv c 0
/-- and, before the signals, a unit to their barrier cells too. -/
def O₀ (c : Dev nD) : CellTallies nD τ sig Unit := OX c + owedBar c 2 + owedBar c 1 + owedBar c 0

def L (g : GSem nD τ sig) : Finset Unit := if g.1.2 = .tc then {()} else ∅
def lvOf : Option Role → ℕ
  | some .bar => 1 | some (.recv _) => 2 | some (.send _) => 0 | none => 0
/-- Barrier cells at level 1, receive cells at 2, all others at 0. -/
def lv (g : GSem nD τ sig) (_ : Unit) : ℕ := lvOf (cellRole g)

theorem L_of_ne (g : GSem nD τ sig) (h : g.1.2 ≠ .tc) : L g = ∅ := if_neg h
theorem L_tc (c : Dev nD) (s : SemLoc sig) : L ((c : Thread nD τ), s) = {()} := if_pos rfl
theorem mem_L (c : Dev nD) (r : Role) (u : Unit) : u ∈ L (cell c r) := by rw [L_tc]; exact Finset.mem_singleton_self _

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem OX_pos {c : Dev nD} {g : GSem nD τ sig} {u : Unit} (h : 0 < OX c g u) : ∃ i, g = cell (peer c i) (.recv i.rev) := by
  unfold OX at h
  simp only [Pi.add_apply, Finsupp.add_apply] at h
  by_contra hn
  rw [not_exists] at hn
  have z : ∀ i, owedRecv c i g u = 0 := fun i => by
    by_contra h0; exact hn i (tally_pos (Nat.pos_of_ne_zero h0))
  rw [z, z, z] at h
  exact Nat.lt_irrefl 0 h

theorem O₀_pos {c : Dev nD} {g : GSem nD τ sig} {u : Unit} (h : 0 < O₀ c g u) :
    (∃ i, g = cell (peer c i) (.recv i.rev)) ∨ ∃ i, g = cell (peer c i) .bar := by
  unfold O₀ at h
  simp only [Pi.add_apply, Finsupp.add_apply] at h
  by_contra hn
  rw [not_or] at hn
  have z : ∀ i, owedBar c i g u = 0 := fun i => by
    by_contra h0; exact hn.2 ⟨i, tally_pos (Nat.pos_of_ne_zero h0)⟩
  rw [z, z, z] at h
  exact hn.1 (OX_pos h)

/-- At its barrier wait a device owes receive cells only, which lie above. -/
theorem mayWait_bar (c : Dev nD) : (levAts L lv : sProp 𝕄) ⊢ MayWait (c : Thread nD τ) (.reg barS) () (OX c) :=
  MayOwe.of_cut (L := L) (lev := lv) 1 (fun p hp => by rw [Finset.mem_singleton.mp hp, L_tc]; exact Finset.mem_singleton_self _)
    (fun g u hg => by obtain ⟨i, rfl⟩ := OX_pos hg; exact mem_L _ _ _)
    (fun p hp => by rw [Finset.mem_singleton.mp hp]; show lvOf (cellRole (cell c .bar)) ≤ 1; rw [cellRole_cell]; exact le_rfl)
    (fun g u hg => by obtain ⟨i, rfl⟩ := OX_pos hg; show 1 < lvOf (cellRole (cell _ _)); rw [cellRole_cell]; exact Nat.lt.base 1)

/-- A wait on a semaphore of no role (a staging one) is below all a device ever owes. -/
theorem mayWait_stage (c : Dev nD) (q : DmaSem sig) (hq : roleOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨i, rfl⟩ <;> exact mem_L _ _ _)
      (fun p hp => by
        rw [Finset.mem_singleton.mp hp]
        show lvOf (if ((c : Thread nD τ), SemLoc.dma q).1.2 = .tc then roleOf (.dma q) else none) ≤ 0
        rw [if_pos rfl, hq]; exact le_rfl)
      (fun g u hg => by
        rcases O₀_pos hg with ⟨i, rfl⟩ | ⟨i, rfl⟩ <;> (show 0 < lvOf (cellRole (cell _ _)); rw [cellRole_cell]; first | exact Nat.two_pos | exact Nat.one_pos))
  · rw [MayWait_zero]; iintro -; iempintro

end Cert.KernelIdeal.Exchange
end
-- ==== Proof.KiBody.lean ====
/-
# One device's run of the kernel body

The body of the kernel on device `c`, run from what the launch deals the device (`start`) and its staged blocks of `x`
and `gamma`, to its four rows filled, its seven cells back at zero and its block of the result stored (`Φ₁`, `outAt`).
The steps of the exchange — a signal, a transfer, a wait — are each stated once, for every peer.
-/
module

public import proofs.«01_k».proof.Proof.KiProtocol

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch deals a device -/

/-- The number of a role. -/
def num : Role → Fin 7
  | .bar => 0 | .send 0 => 1 | .send 1 => 2 | .send 2 => 3 | .recv 0 => 4 | .recv 1 => 5 | .recv 2 => 6
theorem role_num (r : Role) : role (num r) = r := by
  match r with
  | .bar => rfl
  | .send 0 => rfl
  | .send 1 => rfl
  | .send 2 => rfl
  | .recv 0 => rfl
  | .recv 1 => rfl
  | .recv 2 => rfl

/-- The cell of number `x.2` on device `x.1`. -/
abbrev kcell (x : Dev nD × Fin 7) : GSem nD τ sig := cell x.1 (role x.2)

/-- Every cell's invariant, and that its round 0 is reached. -/
def records (K : Dev nD × Fin 7 → ℕ) : sProp 𝕄 :=
  iprop((bigSep Finset.univ fun x : Dev nD × Fin 7 => cellInv EX (Xd m) (K x) (kcell x))
    ∗ bigSep Finset.univ fun x : Dev nD × Fin 7 => reached EX (kcell x) 0)

instance records_persistent (K : Dev nD × Fin 7 → ℕ) : BI.Persistent (records m K) := by unfold records; infer_instance

/-- The records give any one cell's invariant, -/
theorem inv_of (K : Dev nD × Fin 7 → ℕ) (c : Dev nD) (r : Role) :
    (records m K : sProp 𝕄) ⊢ cellInv EX (Xd m) (K (c, num r)) (cell c r) := by
  have h : iprop((bigSep Finset.univ fun x : Dev nD × Fin 7 => cellInv EX (Xd m) (K x) (kcell x))) ⊢ (cellInv EX (Xd m) (K (c, num r)) (kcell (c, num r)) : sProp 𝕄) :=
    bigSep_elim (Finset.mem_univ (c, num r))
  rw [show kcell (c, num r) = cell c r from by show cell c (role (num r)) = _; rw [role_num]] at h
  unfold records
  iintro ⟨HI, -⟩
  iapply h; iexact HI

/-- and that its round 0 is reached. -/
theorem reached_of (K : Dev nD × Fin 7 → ℕ) (c : Dev nD) (r : Role) : (records m K : sProp 𝕄) ⊢ reached EX (cell c r) 0 := by
  have h : iprop((bigSep Finset.univ fun x : Dev nD × Fin 7 => reached EX (kcell x) 0)) ⊢ (reached EX (kcell (c, num r)) 0 : sProp 𝕄) :=
    bigSep_elim (Finset.mem_univ (c, num r))
  rw [show kcell (c, num r) = cell c r from by show cell c (role (num r)) = _; rw [role_num]] at h
  unfold records
  iintro ⟨-, HR⟩
  iapply h; iexact HR

/-- The tokens of the duties device `c` pays: its peers' barriers', its own sends', its peers' receives'. -/
def payToks (c : Dev nD) : sProp 𝕄 :=
  iprop((bigSep Finset.univ fun j : Fin 3 => dutyTok EX (cell (peer c j) .bar) 0 j.rev)
    ∗ (bigSep Finset.univ fun j : Fin 3 => dutyTok EX (cell c (.send j)) 0 0)
    ∗ bigSep Finset.univ fun j : Fin 3 => dutyTok EX (cell (peer c j) (.recv j.rev)) 0 0)

/-- Its position at the start of each of its cells. -/
def positions (c : Dev nD) : sProp 𝕄 := bigSep Finset.univ fun k : Fin 7 => atPos EX (kcell (c, k)) 0 ∅ 0

/-- The units its own cells will be paid by others. -/
def credits (c : Dev nD) : sProp 𝕄 :=
  iprop(cred (tallyAt (cell c .bar) () 3) ∗ bigSep Finset.univ fun j : Fin 3 => cred (tallyAt (cell c (.recv j)) () N))

def ghost (K : Dev nD × Fin 7 → ℕ) (c : Dev nD) : sProp 𝕄 := iprop(records m K ∗ positions c ∗ payToks c)

/-- What device `c` starts from, beside its buffers. -/
def start (c : Dev nD) : sProp 𝕄 := iprop((∃ K, ghost m K c) ∗ credits c ∗ levAts L lv)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

abbrev 𝒱₀ : Variants := Variants.none

/-! ## The steps -/

section Steps
variable (K : Dev nD × Fin 7 → ℕ) (c : Dev nD)
variable {α : Type} {k : PUnit → Prog (TpuEff nD τ sig (Elt F) Λ₀ .tc) α} {W : Waits sig Unit}

/-- The rest of the program, to run next. -/
abbrev rest {α : Type} (k : PUnit → Prog (TpuEff nD τ sig (Elt F) Λ₀ .tc) α) (Q : α → sProp 𝕄) : sProp 𝕄 :=
  wp frame (wpE (defs₀ (F := F)) 𝒱₀ (c : Thread nD τ) none) Set.univ (k ⟨⟩) Q

/-- Telling the `j`-th peer that row `j + 1` may be written: the row is handed over, and a unit less is owed. -/
theorem step_signal {Q : α → sProp 𝕄} (j : Fin 3) (n : Dev nD) (hn : n = peer c j) {amt : ℕ} (ha : amt = 1)
    (f : (cc0_scratch0 : Ref sig .tc).ty.Contents (Elt F)) (O : CellTallies nD τ sig Unit) :
    iprop(records m K ∗ owes (c : Thread nD τ) (O + owedBar c j) W ∗ dutyTok EX (cell (peer c j) .bar) 0 j.rev ∗ rowPts c j.succ fullShare f)
      ⊢ iprop((owes (c : Thread nD τ) O W -∗ rest c k Q)
          -∗ wp frame (wpE (defs₀ (F := F)) 𝒱₀ (c : Thread nD τ) none) Set.univ (.op (.semSignal (n : Thread nD τ) barS amt) k) Q) := by
  subst hn ha
  have hpay : (rowPts c j.succ fullShare f : sProp 𝕄) ⊢ (Xd m).payload (cell (peer c j) .bar) 0 j.rev := by
    rw [payload_cell m (peer c j) .bar]
    show _ ⊢ barPay (peer c j) j.rev
    unfold barPay
    rw [peer_rev, Fin.rev_rev]
    iintro H; iexists f; iexact H
  iintro ⟨#HR, HO, Ht, Hrow⟩
  iapply (Rounds.wp_signal 𝒱₀ EX (Xd m) (c : Thread nD τ) none (dst := (peer c j : Thread nD τ)) (κ := K (peer c j, num .bar))
    (r := 0) (d := j.rev) (by rw [duties_cell m (peer c j) .bar]; exact Finset.mem_univ _) (amount_cell m (peer c j) .bar j.rev) () O rfl)
  isplitr; · iapply (inv_of m K (peer c j) .bar); iexact HR
  isplitl [HO]; · iexact HO
  isplitl [Ht]; · iexact Ht
  isplitl [Hrow]
  · iapply hpay; iexact Hrow
  · iapply (reached_of m K (peer c j) .bar); iexact HR

/-- Waiting for the three peers: their rows arrive. -/
theorem step_bar {Q : α → sProp 𝕄} (amt : ℕ) (ha : amt = 3) :
    iprop(records m K ∗ cred (tallyAt (cell c .bar) () 3) ∗ owes (c : Thread nD τ) (OX c) W ∗ levAts L lv ∗ atPos EX (cell c .bar) 0 ∅ 0)
      ⊢ iprop(((owes (c : Thread nD τ) (OX c) (insert (SemLoc.reg barS, ()) W) ∗ atPos EX (cell c .bar) (0 + 1) ∅ 0
            ∗ barPay c 0 ∗ barPay c 1 ∗ barPay c 2) -∗ rest c k Q)
          -∗ wp frame (wpE (defs₀ (F := F)) 𝒱₀ (c : Thread nD τ) none) Set.univ (.op (.semWait barS amt) k) Q) := by
  subst ha
  iintro ⟨#HR, HC, HO, #Hlev, Hat⟩ Hk
  iapply (Rounds.wp_wait_rest_token 𝒱₀ EX (Xd m) (c : Thread nD τ) none (κ := K (c, num .bar))
      (wpE_semWait_eq 𝒱₀ (c : Thread nD τ) none Set.univ) (Set.mem_univ _) () (O := OX c) (W := W) (R := 0) (m := 0) (T := ∅)
      (by rw [expect_bar m c])) $$ [HC HO Hat]
  · isplitr; · iapply (inv_of m K c .bar); iexact HR
    isplitl [HC]; · iexact HC
    isplitl [HO]; · iexact HO
    isplitr; · iapply (mayWait_bar c); iexact Hlev
    iexact Hat
  iintro ⟨HO, Hat, -, Hp⟩
  ihave Hp := (Entails.of_eq (rest_bar m c)) $$ Hp
  iapply Hk
  isplitl [HO]; · iexact HO
  isplitl [Hat]; · iexact Hat
  iexact Hp

/-- A wait on one of its own transfer cells, owing nothing: what the one duty of that cell hands over. -/
theorem step_wait {Q : α → sProp 𝕄} (r : Role) (q : DmaSem sig) (hq : semOf r = .dma q) (P : sProp 𝕄)
    (hex : (Xd (F := F) m).expect (cell c r) 0 = N)
    (hP : bigSep ((Xd (F := F) m).duties (cell c r) 0 \ ∅) (fun d => (Xd (F := F) m).payload (cell c r) 0 d) = P)
    {sp' : Space} {s' : Shape} {e' : EltTy} {sp : Space} {s : Shape} {e : EltTy}
    {src : Memref sig .tc sp' s' e'} {dst : Memref sig .tc sp s e} {h₁ : src.view.WordExact} {h₂ : dst.view.WordExact}
    (hN : dst.view.dmaCredit = N) :
    iprop(records m K ∗ cred (tallyAt (cell c r) () N) ∗ owes (c : Thread nD τ) 0 W ∗ atPos EX (cell c r) 0 ∅ 0)
      ⊢ iprop(((owes (c : Thread nD τ) 0 (insert (SemLoc.dma q, ()) W) ∗ atPos EX (cell c r) (0 + 1) ∅ 0 ∗ P) -∗ rest c k Q)
          -∗ wp frame (wpE (defs₀ (F := F)) 𝒱₀ (c : Thread nD τ) none) Set.univ (.op (.waitDma2 q src dst h₁ h₂) k) Q) := by
  subst hP
  have hc : cell c r = ((c : Thread nD τ), SemLoc.dma q) := by rw [← hq]
  have hi := inv_of m K c r
  rw [hc] at hex hi ⊢
  iintro ⟨#HR, HC, HO, Hat⟩ Hk
  iapply (Rounds.wp_wait_rest_token 𝒱₀ EX (Xd m) (c : Thread nD τ) none (κ := K (c, num r))
      (wpE_waitDma2_eq 𝒱₀ (c : Thread nD τ) none Set.univ) (Set.mem_univ _) () (O := 0) (W := W) (R := 0) (m := 0) (T := ∅)
      (by rw [Nat.zero_add, hN, hex])) $$ [HC HO Hat]
  · isplitr; · iapply hi; iexact HR
    isplitl [HC]; · rw [hN]; iexact HC
    isplitl [HO]; · iexact HO
    isplitr; · rw [MayWait_zero]; iempintro
    iexact Hat
  iintro ⟨HO, Hat, -, Hp⟩
  iapply Hk
  isplitl [HO]; · iexact HO
  isplitl [Hat]; · iexact Hat
  iexact Hp

/-- A row, as a transfer through its memref names its elements. -/
theorem rowPts_memref (r : Fin 4) (q : PosShare TreeShare) (f : (cc0_scratch0 : Ref sig .tc).ty.Contents (Elt F)) :
    (rowPts c r q f : sProp 𝕄)
      = ((rowM r).view.loc (c : Thread nD τ) ↦[(rowM r).view.set]{q} (f : Buf (Elt F) ((rowM r).view.loc (c : Thread nD τ)))) := by
  rw [rowM_set]; rfl

/-- The `i`-th transfer of row 0: a share of row 0 and the peer's row go in, the credit to wait for it comes out. -/
theorem step_send {Q : α → sProp 𝕄} (i : Fin 3) (n : Dev nD) (hn : n = peer c i) (r : Fin 4) (hr : r = i.rev.succ) (j : Fin 3) (hj : j = i.rev)
    (O : CellTallies nD τ sig Unit)
    {hsc : (rowM r : Memref sig (Dev.tc n : Thread nD τ).2.kind .vmem S1x768 .f32).view.ref.isScScratch = false}
    {hsrc : (rowM 0).view.WordExact} {hdst : (rowM r : Memref sig (Dev.tc n : Thread nD τ).2.kind .vmem S1x768 .f32).view.WordExact}
    {hsem : DmaTarget.Typed .vmem (.dma (recvS j)) (.remote (Dev.tc n : Thread nD τ) (rowM r : Memref sig (Dev.tc n : Thread nD τ).2.kind .vmem S1x768 .f32) (.dma (sendS i)) hsc)} :
    iprop(records m K ∗ rowPts c 0 (third i) (rows m c) ∗ barPay c i ∗ owes (c : Thread nD τ) (O + owedRecv c i) W
        ∗ dutyTok EX (cell c (.send i)) 0 0 ∗ dutyTok EX (cell (peer c i) (.recv i.rev)) 0 0)
      ⊢ iprop(((cred (tallyAt (cell c (.send i)) () N) ∗ owes (c : Thread nD τ) O W) -∗ rest c k Q)
          -∗ wp frame (wpE (defs₀ (F := F)) 𝒱₀ (c : Thread nD τ) none) Set.univ
              (.op (.enqueueDma (rowM 0) (.remote (Dev.tc n : Thread nD τ) (rowM r) (.dma (sendS i)) hsc) (.dma (recvS j)) hsrc hdst hsem) k) Q) := by
  subst hn hr hj
  unfold barPay
  iintro ⟨#HR, Hsrc, ⟨%f, Hdst⟩, HO, HtS, HtR⟩
  ihave Hsrc := (Entails.of_eq (rowPts_memref c 0 (third i) (rows m c))) $$ Hsrc
  ihave Hdst := (Entails.of_eq (rowPts_memref (peer c i) i.rev.succ fullShare f)) $$ Hdst
  iapply (Rounds.wp_send_pointsTo 𝒱₀ EX (Xd m) (c : Thread nD τ) none (κ₁ := K (c, num (.send i))) (κ₂ := K (peer c i, num (.recv i.rev)))
    (r₁ := 0) (r₂ := 0) (d₁ := 0) (d₂ := 0) (fd := f)
    (by rw [duties_cell m c (.send i)]; exact Finset.mem_singleton_self _)
    (by rw [duties_cell m (peer c i) (.recv i.rev)]; exact Finset.mem_singleton_self _)
    () () N (rowM_credit _ _) (amount_cell m c (.send i) 0) (amount_cell m (peer c i) (.recv i.rev) 0) O rfl (W := W)
    (by
      rw [payload_cell m c (.send i)]
      show _ ⊢ sendPay m c i
      unfold sendPay
      rw [rowPts_memref])
    (by
      rw [payload_cell m (peer c i) (.recv i.rev)]
      show _ ⊢ recvPay m (peer c i) i.rev
      unfold recvPay
      rw [← rowPts_congr (peer c i) i.rev.succ fullShare (landed_row m c i f), rowPts_memref]))
  isplitr; · iapply (inv_of m K c (.send i)); iexact HR
  isplitr; · iapply (inv_of m K (peer c i) (.recv i.rev)); iexact HR
  isplitl [Hsrc]; · iexact Hsrc
  isplitl [Hdst]; · iexact Hdst
  isplitl [HO]; · iexact HO
  isplitl [HtS]; · iexact HtS
  isplitr; · iapply (reached_of m K c (.send i)); iexact HR
  isplitl [HtR]; · iexact HtR
  iapply (reached_of m K (peer c i) (.recv i.rev)); iexact HR

/-- A cell whose round is over is closed: its counter is at zero. -/
theorem step_close (r : Role) :
    iprop(records m K ∗ atPos EX (cell c r) (0 + 1) ∅ 0) ⊢ (|={Set.univ}=> semVal (cell c r) 0 : sProp 𝕄) := by
  iintro ⟨#HR, Hat⟩
  iapply (Rounds.cell_close EX (Xd m) (Set.mem_univ (K (c, num r))) (fun h => h) (R := 0 + 1) (duties_later m (cell c r)))
  isplitr; · iapply (inv_of m K c r); iexact HR
  iexact Hat

end Steps

/-! ## Before and after the one point of the pipeline -/

/-- A whole buffer of device `c` at some contents. -/
def bufAt (c : Dev nD) (f : (cc0_scratch0 : Ref sig .tc).ty.Contents (Elt F)) : sProp 𝕄 :=
  ((c : Thread nD τ).loc cc0_scratch0) ↦{fullShare} (f : Buf (Elt F) ((c : Thread nD τ).loc cc0_scratch0))

def Φ₀ (c : Dev nD) : sProp 𝕄 := iprop(start m c ∗ ∃ f, bufAt c f)
/-- Afterwards the rows are filled and every cell of the exchange reads zero. -/
def Φ₁ (c : Dev nD) : sProp 𝕄 :=
  iprop(bufAt c (rows m c) ∗ bigSep Finset.univ fun k : Fin 7 => semVal (kcell (c, k)) 0)

/-- The pipeline's proof data: what each window stages, what the body leaves, what is owed before it. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => gstg m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 7 → ℕ) (c : Dev nD) : sProp 𝕄 :=
  iprop((ghost m K c ∗ credits c ∗ levAts L lv ∗ ∃ f, bufAt c f)
    ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ m c ∗ (dats m 0 c).owesAt () t0_0.succ
    ∗ stg c cc0_stg0_0 (xstg m c) ∗ stg c cc0_stg1_0 (gstg m c) ∗ stg c cc0_stg2_0 (outAt m c))

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Loads of whole buffers read their contents, -/
theorem read_x (f : (cc0_stg0_0 : Ref sig .tc).ty.Contents (Elt F)) :
    xM.view.readAt (Elt F) (Rect.unit (s := S768x512) ![0, 0] S768x512.size inb_S768x512_S768x512_0_0).toLoadRect f = f :=
  Memref.readAt_unit_zero (Elt F) cc0_stg0_0 hz2 _ f
theorem read_g (f : (cc0_stg1_0 : Ref sig .tc).ty.Contents (Elt F)) :
    gM.view.readAt (Elt F) (Rect.unit (s := S512) ![0] S512.size inb_S512_S512_0).toLoadRect f = f :=
  Memref.readAt_unit_zero (Elt F) cc0_stg1_0 hz1 _ f
theorem read_rows (f : (cc0_scratch0 : Ref sig .tc).ty.Contents (Elt F)) :
    rM.view.readAt (Elt F) (Rect.unit (s := S4x1x768) ![0, 0, 0] S4x1x768.size inb_S4x1x768_S4x1x768_0_0_0).toLoadRect f = f :=
  Memref.readAt_unit_zero (Elt F) cc0_scratch0 hz3 _ f
/-- and the store of the whole result replaces what was there. -/
theorem write_out (f w : (cc0_stg2_0 : Ref sig .tc).ty.Contents (Elt F)) :
    (oM.access (Rect.unit (s := S768x512) ![0, 0] S768x512.size inb_S768x512_S768x512_0_0) : View sig .tc _ _ _).write (Elt F) f w Finset.univ = w :=
  Memref.write_access_unit_zero_univ (Elt F) cc0_stg2_0 hz2 _ f w

/-- Row 0 after the store is row 0 of `rows`. -/
theorem stored_row0 (c : Dev nD) (f : (cc0_scratch0 : Ref sig .tc).ty.Contents (Elt F)) :
    ((rM.access (rowR 0) : View sig .tc _ _ _).loc (c : Thread nD τ) ↦[rowSet 0]{fullShare}
        (rM.access (rowR 0) : View sig .tc _ _ _).write (Elt F) f (k0_pay3 (xstg m c)) Finset.univ : sProp 𝕄)
      ⊢ rowPts c 0 fullShare (rows m c) :=
  Entails.of_eq (rowPts_congr c 0 fullShare (store_row0 m c f))

set_option maxHeartbeats 1600000 in
/-- The body runs from `bodyPre` to `bodyPost`. -/
theorem sound_body (K : Dev nD × Fin 7 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPre ghost positions payToks credits
  simp only [bigSep_fin7, bigSep_fin3]
  iintro ⟨⟨⟨⟨#HR, ⟨HaB, HaS0, HaS1, HaS2, HaV0, HaV1, HaV2⟩, ⟨HtB0, HtB1, HtB2⟩, ⟨HtS0, HtS1, HtS2⟩, HtV0, HtV1, HtV2⟩,
    ⟨HcB, HcV0, HcV1, HcV2⟩, #Hlev, ⟨%f0, Hbuf⟩⟩,
    Ho, ⟨%d0, %g0, %hg0, Hx⟩, ⟨%d1, %g1, %hg1, Hg⟩, ⟨%d2, %g2, %hg2, Hout⟩⟩, Hk⟩
  have hx : g0 = xstg m c := by rw [hg0]; unfold Dat.before; rw [if_pos (fetch_0 t0_0)]; rfl
  have hgm : g1 = gstg m c := by rw [hg1]; unfold Dat.before; rw [if_pos (fetch_1 t0_0)]; rfl
  subst hx hgm
  unfold Dat.owesAt Pipeline.owesWithin
  icases Ho with ⟨%W, %hW, HO⟩
  rw [show (dats m 0 c).owed t0_0.castSucc = O₀ c from rfl]
  unfold bufAt
  ihave Hrows := (Entails.of_eq (rows_split c f0)) $$ Hbuf
  icases Hrows with ⟨Hr0, Hr1, Hr2, Hr3⟩
  unfold O₀
  iapply (step_signal m K c 0 _ (dev1_eq c) (by decide) f0 (OX c + owedBar c 2 + owedBar c 1)) $$ [HO HtB0 Hr1]
  · isplitr; · iexact HR
    isplitl [HO]; · iexact HO
    isplitl [HtB0]; · iexact HtB0
    iexact Hr1
  iintro HO
  iapply (step_signal m K c 1 _ (dev2_eq c) (by decide) f0 (OX c + owedBar c 2)) $$ [HO HtB1 Hr2]
  · isplitr; · iexact HR
    isplitl [HO]; · iexact HO
    isplitl [HtB1]; · iexact HtB1
    iexact Hr2
  iintro HO
  iapply (step_signal m K c 2 _ (dev3_eq c) (by decide) f0 (OX c)) $$ [HO HtB2 Hr3]
  · isplitr; · iexact HR
    isplitl [HO]; · iexact HO
    isplitl [HtB2]; · iexact HtB2
    iexact Hr3
  iintro HO
  iapply (step_bar m K c _ (by decide)) $$ [HcB HO HaB]
  · isplitr; · iexact HR
    isplitl [HcB]; · iexact HcB
    isplitl [HO]; · iexact HO
    isplitr; · iexact Hlev
    iexact HaB
  iintro ⟨HO, HaB, Hp0, Hp1, Hp2⟩
  -- its own sums of squares into row 0
  iapply (wp_load 𝒱₀ (c : Thread nD τ) none Set.univ (m := xM) (Finset.subset_univ _)) $$ Hx; iintro Hx
  rw [read_x]
  unfold rowPts
  iapply (wp_load_rect 𝒱₀ (c : Thread nD τ) none Set.univ (m := rM) (r := rowR 0) (S := rowSet 0)
    (by rw [← rowR_set 0]; exact (View.set_slice_whole cc0_scratch0 (rowR 0)).subset)) $$ Hr0; iintro Hr0
  iapply (wp_store 𝒱₀ (c : Thread nD τ) none Set.univ (m := rM) (r := rowR 0) (Mk := Finset.univ) (S := rowSet 0)
    (by rw [← rowR_set 0]; exact (View.set_slice_whole cc0_scratch0 (rowR 0)).subset)) $$ Hr0; iintro Hr0
  ihave Hr0 := (stored_row0 m c f0) $$ Hr0
  ihave Hr0 := (thirds c 0 (rows m c)).1 $$ Hr0
  icases Hr0 with ⟨Hq0, Hq1, Hq2⟩
  unfold OX
  iapply (step_send m K c 0 _ (dev4_eq c) 3 rfl 2 rfl (0 + owedRecv c 2 + owedRecv c 1)) $$ [Hq0 Hp0 HO HtS0 HtV0]
  · isplitr; · iexact HR
    isplitl [Hq0]; · iexact Hq0
    isplitl [Hp0]; · iexact Hp0
    isplitl [HO]; · iexact HO
    isplitl [HtS0]; · iexact HtS0
    iexact HtV0
  iintro ⟨HcS0, HO⟩
  iapply (step_send m K c 1 _ (dev5_eq c) 2 rfl 1 rfl (0 + owedRecv c 2)) $$ [Hq1 Hp1 HO HtS1 HtV1]
  · isplitr; · iexact HR
    isplitl [Hq1]; · iexact Hq1
    isplitl [Hp1]; · iexact Hp1
    isplitl [HO]; · iexact HO
    isplitl [HtS1]; · iexact HtS1
    iexact HtV1
  iintro ⟨HcS1, HO⟩
  iapply (step_send m K c 2 _ (dev6_eq c) 1 rfl 0 rfl (0)) $$ [Hq2 Hp2 HO HtS2 HtV2]
  · isplitr; · iexact HR
    isplitl [Hq2]; · iexact Hq2
    isplitl [Hp2]; · iexact Hp2
    isplitl [HO]; · iexact HO
    isplitl [HtS2]; · iexact HtS2
    iexact HtV2
  iintro ⟨HcS2, HO⟩
  iapply (wp_load 𝒱₀ (c : Thread nD τ) none Set.univ (m := gM) (Finset.subset_univ _)) $$ Hg; iintro Hg
  rw [read_g]
  iapply (step_wait m K c (.recv 0) (recvS 0) rfl (recvPay m c 0) (expect_recv m c 0) (rest_recv m c 0)
      (src := rowM 0) (dst := rowM 1) (h₁ := (View.wordExact_bits rfl).reshape _ _) (h₂ := (View.wordExact_bits rfl).reshape _ _) rfl) $$ [HcV0 HO HaV0]
  · isplitr; · iexact HR
    isplitl [HcV0]; · iexact HcV0
    isplitl [HO]; · iexact HO
    iexact HaV0
  iintro ⟨HO, HaV0, HV0⟩
  iapply (step_wait m K c (.recv 1) (recvS 1) rfl (recvPay m c 1) (expect_recv m c 1) (rest_recv m c 1)
      (src := rowM 0) (dst := rowM 2) (h₁ := (View.wordExact_bits rfl).reshape _ _) (h₂ := (View.wordExact_bits rfl).reshape _ _) rfl) $$ [HcV1 HO HaV1]
  · isplitr; · iexact HR
    isplitl [HcV1]; · iexact HcV1
    isplitl [HO]; · iexact HO
    iexact HaV1
  iintro ⟨HO, HaV1, HV1⟩
  iapply (step_wait m K c (.recv 2) (recvS 2) rfl (recvPay m c 2) (expect_recv m c 2) (rest_recv m c 2)
      (src := rowM 0) (dst := rowM 3) (h₁ := (View.wordExact_bits rfl).reshape _ _) (h₂ := (View.wordExact_bits rfl).reshape _ _) rfl) $$ [HcV2 HO HaV2]
  · isplitr; · iexact HR
    isplitl [HcV2]; · iexact HcV2
    isplitl [HO]; · iexact HO
    iexact HaV2
  iintro ⟨HO, HaV2, HV2⟩
  iapply (step_wait m K c (.send 0) (sendS 0) rfl (sendPay m c 0) (expect_send m c 0) (rest_send m c 0)
      (src := rowM 3) (dst := rowM 0) (h₁ := (View.wordExact_bits rfl).reshape _ _) (h₂ := (View.wordExact_bits rfl).reshape _ _) rfl) $$ [HcS0 HO HaS0]
  · isplitr; · iexact HR
    isplitl [HcS0]; · iexact HcS0
    isplitl [HO]; · iexact HO
    iexact HaS0
  iintro ⟨HO, HaS0, HS0⟩
  iapply (step_wait m K c (.send 1) (sendS 1) rfl (sendPay m c 1) (expect_send m c 1) (rest_send m c 1)
      (src := rowM 2) (dst := rowM 0) (h₁ := (View.wordExact_bits rfl).reshape _ _) (h₂ := (View.wordExact_bits rfl).reshape _ _) rfl) $$ [HcS1 HO HaS1]
  · isplitr; · iexact HR
    isplitl [HcS1]; · iexact HcS1
    isplitl [HO]; · iexact HO
    iexact HaS1
  iintro ⟨HO, HaS1, HS1⟩
  iapply (step_wait m K c (.send 2) (sendS 2) rfl (sendPay m c 2) (expect_send m c 2) (rest_send m c 2)
      (src := rowM 1) (dst := rowM 0) (h₁ := (View.wordExact_bits rfl).reshape _ _) (h₂ := (View.wordExact_bits rfl).reshape _ _) rfl) $$ [HcS2 HO HaS2]
  · isplitr; · iexact HR
    isplitl [HcS2]; · iexact HcS2
    isplitl [HO]; · iexact HO
    iexact HaS2
  iintro ⟨HO, HaS2, HS2⟩
  -- the four rows again as one buffer, filled
  unfold recvPay sendPay
  ihave Hr0 := (thirds c 0 (rows m c)).2 $$ [HS0 HS1 HS2]
  · isplitl [HS0]; · iexact HS0
    isplitl [HS1]; · iexact HS1
    iexact HS2
  ihave Hbuf := (Entails.of_eq (rows_split c (rows m c)).symm) $$ [Hr0 HV0 HV1 HV2]
  · isplitl [Hr0]; · iexact Hr0
    isplitl [HV0]; · iexact HV0
    isplitl [HV1]; · iexact HV1
    iexact HV2
  iapply (wp_load 𝒱₀ (c : Thread nD τ) none Set.univ (m := rM) (Finset.subset_univ _)) $$ Hbuf; iintro Hbuf
  rw [read_rows]
  iapply (wp_load_rect 𝒱₀ (c : Thread nD τ) none Set.univ (m := oM)
    (r := Rect.unit (s := S768x512) ![0, 0] S768x512.size inb_S768x512_S768x512_0_0) (Finset.subset_univ _)) $$ Hout; iintro Hout
  iapply (wp_store 𝒱₀ (c : Thread nD τ) none Set.univ (m := oM)
    (r := Rect.unit (s := S768x512) ![0, 0] S768x512.size inb_S768x512_S768x512_0_0) (Mk := Finset.univ) (Finset.subset_univ _)) $$ Hout; iintro Hout
  rw [write_out, wp_ret]
  -- the cells close
  imod (step_close m K c .bar) $$ [HaB] with HzB
  · isplitr; · iexact HR
    iexact HaB
  imod (step_close m K c (.send 0)) $$ [HaS0] with HzS0
  · isplitr; · iexact HR
    iexact HaS0
  imod (step_close m K c (.send 1)) $$ [HaS1] with HzS1
  · isplitr; · iexact HR
    iexact HaS1
  imod (step_close m K c (.send 2)) $$ [HaS2] with HzS2
  · isplitr; · iexact HR
    iexact HaS2
  imod (step_close m K c (.recv 0)) $$ [HaV0] with HzV0
  · isplitr; · iexact HR
    iexact HaV0
  imod (step_close m K c (.recv 1)) $$ [HaV1] with HzV1
  · isplitr; · iexact HR
    iexact HaV1
  imod (step_close m K c (.recv 2)) $$ [HaV2] with HzV2
  · isplitr; · iexact HR
    iexact HaV2
  imodintro
  iapply Hk
  unfold bodyPost Φ₁ Dat.owesAt Pipeline.owesWithin bufAt
  rw [show (dats m 0 c).owed t0_0.succ = 0 from rfl, bigSep_fin7]
  isplitl [Hbuf HzB HzS0 HzS1 HzS2 HzV0 HzV1 HzV2]
  · isplitl [Hbuf]; · iexact Hbuf
    isplitl [HzB]; · iexact HzB
    isplitl [HzS0]; · iexact HzS0
    isplitl [HzS1]; · iexact HzS1
    isplitl [HzS2]; · iexact HzS2
    isplitl [HzV0]; · iexact HzV0
    isplitl [HzV1]; · iexact HzV1
    iexact HzV2
  isplitl [HO]
  · iexists ?_
    isplitr
    rotate_left
    · iexact HO
    · ipureintro; exact fun _ _ => Or.inl trivial
  isplitl [Hx]
  · iexists _; isplitr; · (ipureintro; rfl)
    iexact Hx
  isplitl [Hg]
  · iexists _; isplitr; · (ipureintro; rfl)
    iexact Hg
  iexists _; isplitr; · (ipureintro; rfl)
  iexact Hout

end Cert.KernelIdeal.Exchange
end
-- ==== Proof.KiRun.lean ====
/-
# The run of the whole program

The cells and tokens the exchange starts from, how they are dealt to the four devices, and the run of @main on the
mesh: it ends, every array is what the pipeline's proof data says, and every semaphore is back at zero.
-/
module

public import proofs.«01_k».proof.Proof.KiBody
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, as the pipeline asks for it -/

/-- What the pipeline holds when the body starts. -/
def bodyEntry (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

/-- The body keeps the pipeline's obligation on every device. -/
theorem body_obligation (c : Dev nD) : BodyObligation (dats (F := F) m 0 c) (defs₀ (F := F)) 𝒱₀ () Set.univ := fun t => by
  rw [fin_N0 t, bigSep_W0, bigSep_W0]
  simp only [owns_whole]
  show bodyEntry m c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) cc0_scratch1 cc0_scratch2) (fun _ => bodyPost m c)
  unfold bodyEntry Φ₀ start
  iintro ⟨⟨⟨⟨%K, Hgh⟩, Hcr, Hlev⟩, Hbuf⟩, Hin⟩
  iapply (sound_body m K c fun _ => bodyPost m c)
  unfold bodyPre
  isplitr []
  · isplitl [Hgh Hcr Hlev Hbuf]
    · isplitl [Hgh]; · iexact Hgh
      isplitl [Hcr]; · iexact Hcr
      isplitl [Hlev]; · iexact Hlev
      iexact Hbuf
    iexact Hin
  · iintro H; iexact H

/-! ## Cells and tokens at the start -/

/-- The semaphores of the kernel's own arrays, by number. -/
abbrev osem (k : Fin 6) : SemLoc sig := semOf (role k.succ)
theorem ownSemFacts : Pipeline.OwnSemFacts cfg0.spec osem := by decide

theorem share_eq (c : Dev nD) (w : Fin cfg0.W) : (dats m 0 c).share w = fullShare := by unfold Dat.share; split <;> rfl

theorem kcell_injective : Function.Injective kcell := by
  rintro ⟨c, k⟩ ⟨c', k'⟩ h
  obtain ⟨h1, h2⟩ := cell_inj h
  exact Prod.ext h1 (role_inj h2)

/-- All cells of the exchange. -/
def allCells : Finset (GSem nD τ sig) := Finset.univ.map ⟨kcell, kcell_injective⟩

/-- A device has nine duties on its own cells, three of each kind: the role and the duty of each. -/
def tokRole : Fin 3 → Fin 3 → Role
  | 0, _ => .bar | 1, j => .send j | 2, j => .recv j
def tokDuty : Fin 3 → Fin 3 → Fin 3
  | 0, j => j | 1, _ => 0 | 2, _ => 0
theorem tok_inj : ∀ k j k' j' : Fin 3, tokRole k j = tokRole k' j' → tokDuty k j = tokDuty k' j' → k = k' ∧ j = j' := by decide

abbrev tokOf (x : Dev nD × Fin 3 × Fin 3) : GSem nD τ sig × ℕ × Fin 3 :=
  (cell x.1 (tokRole x.2.1 x.2.2), 0, tokDuty x.2.1 x.2.2)
theorem tokOf_injective : Function.Injective tokOf := by
  rintro ⟨c, k, j⟩ ⟨c', k', j'⟩ h
  obtain ⟨h1, h2⟩ := cell_inj (congrArg Prod.fst h)
  obtain ⟨h3, h4⟩ := tok_inj k j k' j' h2 (congrArg (fun x : GSem nD τ sig × ℕ × Fin 3 => x.2.2) h)
  exact Prod.ext h1 (Prod.ext h3 h4)

/-- All duty tokens of the exchange. -/
def allToks : Finset (GSem nD τ sig × ℕ × Fin 3) := Finset.univ.map ⟨tokOf, tokOf_injective⟩

/-- The resources at the start: the pipeline's and the exchange's. -/
def u₀ : UU :=
  (initOf (Pipeline.cells cfgs cellOf_inj) (Pipeline.launchToks cfgs cellOf_inj), initOf allCells allToks)

/-- The tokens of a device's own cells. -/
def ownToks (c : Dev nD) : sProp 𝕄 :=
  bigSep Finset.univ fun x : Fin 3 × Fin 3 => dutyTok EX (cell c (tokRole x.1 x.2)) 0 (tokDuty x.1 x.2)

/-- What the start deals a device: its cells' states, its positions there, their tokens. -/
def G (c : Dev nD) : sProp 𝕄 :=
  iprop((bigSep Finset.univ fun k : Fin 7 => roundState EX (Xd m) (kcell (c, k)) 0)
    ∗ (bigSep Finset.univ fun k : Fin 7 => iprop(atPos EX (kcell (c, k)) 0 ∅ 0 ∗ reached EX (kcell (c, k)) 0)) ∗ ownToks c)

/-- What it has once the invariants stand and the tokens are with those who pay. -/
def G' (c : Dev nD) : sProp 𝕄 := iprop(∃ K, ghost m K c)

/-- A resource of every cell is one of every device's seven. -/
theorem over_cells (Φ : GSem nD τ sig → sProp 𝕄) :
    bigSep allCells Φ = bigSep Finset.univ fun c : Dev nD => bigSep Finset.univ fun k : Fin 7 => Φ (kcell (c, k)) := by
  unfold allCells; rw [bigSep_map, bigSep_univ_prod]; rfl
theorem over_toks :
    bigSep allToks (fun x => (dutyTok EX x.1 x.2.1 x.2.2 : sProp 𝕄)) = bigSep Finset.univ fun c : Dev nD => ownToks c := by
  unfold allToks ownToks; rw [bigSep_map, bigSep_univ_prod]; rfl

theorem fund_exchange : BI.own (EX (initOf allCells allToks)) ⊢ (|==> bigSep Finset.univ (G m) : sProp 𝕄) := by
  iintro HX
  imod (Rounds.fund EX (Xd m) allCells allToks) $$ HX with ⟨Hst, Hr, Hat, Htok⟩
  imodintro
  ihave Hst := (Entails.of_eq (over_cells fun g => roundState EX (Xd m) g 0)) $$ Hst
  ihave Hat := (Entails.of_eq (over_cells fun g => atPos EX g 0 ∅ 0)) $$ Hat
  ihave Hr := (Entails.of_eq (over_cells fun g => reached EX g 0)) $$ Hr
  ihave Htok := (Entails.of_eq over_toks) $$ Htok
  unfold G; simp only [bigSep_sep']
  isplitl [Hst]; · iexact Hst
  isplitl [Hat Hr]
  · isplitl [Hat]; · iexact Hat
    iexact Hr
  iexact Htok

/-- The kernel's own semaphores at zero, one by one; -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0
        ∗ semVal (kcell (c, 5)) 0 ∗ semVal (kcell (c, 6)) 0) := by
  rw [Pipeline.ownSems0_eq_of_list c osem [0, 1, 2, 3, 4, 5] (by decide) (by decide)]; rfl
/-- the barrier semaphore is the one besides. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

/-- Together they are the seven cells at zero. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 7 => semVal (kcell (c, k)) 0 : sProp 𝕄) := by
  rw [ownSems0_eq, unscopedSems0_eq, bigSep_fin7]

/-- Each device's seven invariants are set up from its semaphores at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 7 => iprop(∃ κ : ℕ, cellInv EX (Xd m) κ (kcell (c, k))))
          ∗ (bigSep Finset.univ fun k : Fin 7 => iprop(atPos EX (kcell (c, k)) 0 ∅ 0 ∗ reached EX (kcell (c, k)) 0)) ∗ ownToks c) := by
  have halloc : iprop((bigSep Finset.univ fun k : Fin 7 => semVal (kcell (c, k)) 0) ∗ bigSep Finset.univ fun k : Fin 7 => roundState EX (Xd m) (kcell (c, k)) 0)
      ⊢ (|={Set.univ}=> bigSep Finset.univ fun k : Fin 7 => iprop(∃ κ : ℕ, cellInv EX (Xd m) κ (kcell (c, k))) : sProp 𝕄) := by
    rw [← bigSep_sep']
    exact (bigSep_mono fun k _ => (Rounds.body_intro EX (Xd m) (kcell (c, k))).trans inv_alloc).trans (bigSep_fupd _ _)
  unfold G
  iintro ⟨Hos, Hus, Hst, Hat, Htok⟩
  ihave Hv := (Entails.of_eq (sems0_eq (F := F) c)) $$ [Hos Hus]
  · isplitl [Hus]; · iexact Hus
    iexact Hos
  imod halloc $$ [Hv Hst] with Hinv
  · isplitl [Hv]; · iexact Hv
    iexact Hst
  imodintro
  isplitl [Hinv]; · iexact Hinv
  isplitl [Hat]; · iexact Hat
  iexact Htok

/-- A resource of every pair (device, peer number), counted from the other end. -/
theorem around (f : Dev nD → Fin 3 → sProp 𝕄) :
    (bigSep Finset.univ fun c : Dev nD => bigSep Finset.univ fun j : Fin 3 => f c j)
      = bigSep Finset.univ fun c : Dev nD => bigSep Finset.univ fun j : Fin 3 => f (peer c j) j.rev := by
  rw [← bigSep_univ_prod (fun x : Dev nD × Fin 3 => f x.1 x.2), bigSep_univ_equiv swap, bigSep_univ_prod]; rfl

/-- The tokens of all cells are, dealt again, the tokens of the duties each device pays. -/
theorem toks_around : (bigSep Finset.univ fun c : Dev nD => (ownToks c : sProp 𝕄)) = bigSep Finset.univ fun c : Dev nD => payToks c := by
  have h (c : Dev nD) : (ownToks c : sProp 𝕄) = iprop((bigSep Finset.univ fun j : Fin 3 => dutyTok EX (cell c .bar) 0 j)
      ∗ (bigSep Finset.univ fun j : Fin 3 => dutyTok EX (cell c (.send j)) 0 0)
      ∗ bigSep Finset.univ fun j : Fin 3 => dutyTok EX (cell c (.recv j)) 0 0) := by
    unfold ownToks; rw [bigSep_univ_prod, bigSep_fin3]; rfl
  unfold payToks
  simp only [h, bigSep_sep']
  rw [around fun c j => dutyTok EX (cell c .bar) 0 j, around fun c j => dutyTok EX (cell c (.recv j)) 0 0]

/-- A persistent fact may be used for each of many. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- With all invariants known to everyone and the tokens dealt again, each device has its share of the exchange. -/
theorem regroup :
    (bigSep Finset.univ fun c : Dev nD => iprop((bigSep Finset.univ fun k : Fin 7 => iprop(∃ κ : ℕ, cellInv EX (Xd m) κ (kcell (c, k))))
          ∗ (bigSep Finset.univ fun k : Fin 7 => iprop(atPos EX (kcell (c, k)) 0 ∅ 0 ∗ reached EX (kcell (c, k)) 0)) ∗ ownToks c) : sProp 𝕄)
      ⊢ bigSep Finset.univ (G' m) := by
  have hg (K : Dev nD × Fin 7 → ℕ) (c : Dev nD) : iprop(records m K ∗ positions c ∗ payToks c) ⊢ G' m c := by
    unfold G' ghost
    iintro H; iexists K; iexact H
  simp only [bigSep_sep']
  rw [toks_around, ← bigSep_univ_prod (fun x : Dev nD × Fin 7 => iprop(∃ κ : ℕ, cellInv EX (Xd m) κ (kcell x))),
    ← bigSep_univ_prod (fun x : Dev nD × Fin 7 => (reached EX (kcell x) 0 : sProp 𝕄))]
  iintro ⟨HI, ⟨Hat, #HR⟩, Htok⟩
  ihave HK := (BI.bigSep_exists_pi Finset.univ (fun (x : Dev nD × Fin 7) (κ : ℕ) => (cellInv EX (Xd m) κ (kcell x) : sProp 𝕄))) $$ HI
  icases HK with ⟨%K, #HI⟩
  iapply (bigSep_with (R := records m K) fun c _ => hg K c)
  isplitr
  · unfold records; isplitl; · iexact HI
    iexact HR
  · iapply (Entails.of_eq (bigSep_sep' Finset.univ (fun c : Dev nD => (positions c : sProp 𝕄)) payToks).symm)
    isplitl [Hat]; · unfold positions; iexact Hat
    iexact Htok

/-- Every device's semaphores at once, made into the exchange. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What a device's cells will be paid -/

theorem owedBar_bar (d c : Dev nD) (i : Fin 3) : owedBar d i (cell c .bar) () = if d = peer c i.rev then 1 else 0 := by
  unfold owedBar
  rw [tallyAt_apply]
  exact if_congr ⟨fun h => (peer_eq_iff c d i).mp (cell_inj h.1).1.symm, fun h => ⟨by rw [(peer_eq_iff c d i).mpr h], rfl⟩⟩ rfl rfl
theorem owedBar_recv (d c : Dev nD) (i j : Fin 3) : owedBar d i (cell c (.recv j)) () = 0 := by
  unfold owedBar
  rw [tallyAt_apply]
  exact if_neg fun h => Role.noConfusion (cell_inj h.1).2
theorem owedRecv_bar (d c : Dev nD) (i : Fin 3) : owedRecv d i (cell c .bar) () = 0 := by
  unfold owedRecv
  rw [tallyAt_apply]
  exact if_neg fun h => Role.noConfusion (cell_inj h.1).2
theorem owedRecv_recv (d c : Dev nD) (i j : Fin 3) :
    owedRecv d i (cell c (.recv j)) () = if d = peer c j then (if i = j.rev then N else 0) else 0 := by
  unfold owedRecv
  rw [tallyAt_apply, ← ite_and]
  refine if_congr ⟨fun h => ?_, fun h => ⟨?_, rfl⟩⟩ rfl rfl
  · obtain ⟨h1, h2⟩ := cell_inj h.1
    have h3 : j = i.rev := by injection h2
    subst h3
    exact ⟨(peer_eq_iff c d i).mp h1.symm, (Fin.rev_rev i).symm⟩
  · obtain ⟨h1, h2⟩ := h
    subst h1 h2
    rw [peer_rev, Fin.rev_rev]

theorem owed_bar (d c : Dev nD) : O₀ d (cell c .bar) ()
    = (if d = peer c 0 then 1 else 0) + (if d = peer c 1 then 1 else 0) + (if d = peer c 2 then 1 else 0) := by
  have h : (0 : CellTallies nD τ sig Unit) (cell c .bar) () = 0 := rfl
  unfold O₀ OX
  simp only [Pi.add_apply, Finsupp.add_apply]
  rw [owedBar_bar, owedBar_bar, owedBar_bar, owedRecv_bar, owedRecv_bar, owedRecv_bar, h, Nat.zero_add]
  rfl
theorem owed_recv (d c : Dev nD) (j : Fin 3) : O₀ d (cell c (.recv j)) () = if d = peer c j then N else 0 := by
  have h : (0 : CellTallies nD τ sig Unit) (cell c (.recv j)) () = 0 := rfl
  unfold O₀ OX
  simp only [Pi.add_apply, Finsupp.add_apply]
  rw [owedBar_recv, owedBar_recv, owedBar_recv, owedRecv_recv, owedRecv_recv, owedRecv_recv, h]
  by_cases hd : d = peer c j
  · simp only [if_pos hd]
    match j with
    | 0 => rfl
    | 1 => rfl
    | 2 => rfl
  · simp only [if_neg hd]

theorem launch_bar (c : Dev nD) :
    tallyOn (cell c .bar) (launchCredit (Pipeline.owing O₀) 0 (cell c .bar)) = (tallyAt (cell c .bar) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c : Dev nD) (j : Fin 3) :
    tallyOn (cell c (.recv j)) (launchCredit (Pipeline.owing O₀) 0 (cell c (.recv j))) = (tallyAt (cell c (.recv j)) () N : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (peer c j) fun _ => N, if_pos (Finset.mem_univ _)]

theorem recvSem_injective : Function.Injective fun j : Fin 3 => semOf (.recv j) := fun j j' h => by
  have := semOf_inj h
  injection this

/-- A device starts with the credit of its barrier cell and of its receive cells. -/
theorem creds (c : Dev nD) : (Pipeline.launchCred O₀ c : sProp 𝕄) ⊢ credits c := by
  unfold Pipeline.launchCred credits
  rw [bigSep_univ_at _ (semOf .bar), launch_bar]
  refine sep_mono_right ?_
  have h : (bigSep Finset.univ fun j : Fin 3 => (cred (tallyAt (cell c (.recv j)) () N) : sProp 𝕄))
      = bigSep (Finset.univ.map ⟨fun j : Fin 3 => semOf (.recv j), recvSem_injective⟩)
          fun s => cred (tallyOn ((c : Thread nD τ), s) (launchCredit (Pipeline.owing O₀) 0 ((c : Thread nD τ), s))) := by
    rw [bigSep_map]
    exact bigSep_congr fun j _ => by rw [← launch_recv]; rfl
  rw [h]
  refine bigSep_subset fun s hs => ?_
  obtain ⟨j, -, rfl⟩ := Finset.mem_map.mp hs
  exact Finset.mem_erase.mpr ⟨fun he => Role.noConfusion (semOf_inj (r := .recv j) (r' := .bar) he), Finset.mem_univ _⟩

/-! ## Entering and leaving the kernel -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufAt
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq]
  unfold Φ₁ bufAt
  rw [← sems0_eq]
  iintro ⟨Hr, Hu, Ho⟩
  isplitl [Hu]; · iexact Hu
  isplitl [Ho]; · iexact Ho
  iexists (rows m c); iexact Hr

/-- The pipeline's own waits are below all a device owes. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- The state before the run: memory `m`, all counters zero. -/
def s₀ : MemSt nD τ sig (Elt F) := ⟨m, fun _ => 0, ρ⟩

/-- Every window's array on every device is what the proof data says. -/
def Ends (r : PUnit × MemSt nD τ sig (Elt F)) : Prop :=
  ∀ c : Dev nD, ∀ w : Fin cfg0.W, r.2.mem ((cfg0.win w).arr.view.loc (c : Thread nD τ)) = (dats m 0 c).arrAt w cfg0.N

set_option maxRecDepth 8000 in
/-- On four devices, from any memory with all counters zero and for any float values, every fair run of @main ends with
    the arrays as the proof data says and all counters zero. -/
theorem run_main : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_exchange m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The arrays of `x` and `gamma` are unchanged; -/
theorem end_x (c : Dev nD) : (dats (F := F) m 0 c).arrAt (0 : Fin 3) cfg0.N = m ((c : Thread nD τ).loc main_arg0) :=
  (dats (F := F) m 0 c).arrAt_in (0 : Fin 3) rfl _
theorem end_gamma (c : Dev nD) : (dats (F := F) m 0 c).arrAt (1 : Fin 3) cfg0.N = m ((c : Thread nD τ).loc main_arg1) :=
  (dats (F := F) m 0 c).arrAt_in (1 : Fin 3) rfl _

/-- so the run leaves both arguments as they were. -/
theorem run_args : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs (onTc (τ := τ) (main (F := F))) (s₀ m ρ)).mono (fun r h => ⟨fun c =>
    ⟨(h.1 c (0 : Fin 3)).trans (end_x m c), (h.1 c (1 : Fin 3)).trans (end_gamma m c)⟩, h.2⟩) (run_main m ρ)

end Cert.KernelIdeal.Exchange
end
-- ==== Proof.KiValue.lean ====
/-
# What the kernel computes, over the extended reals

When each device holds its block of columns of one array of `x` and its part of one array of `gamma`, the block of the
result that the kernel stores on it is its block of the reference's result: each element is `gamma · x` over the root
of the row's mean square plus epsilon. The row's sum of squares is the sum of the four devices' partial sums, taken in
the order in which a device's rows hold them; multiplying by the reciprocal root is dividing by the root, since what
the root is taken of is positive (or the upper infinity).
-/
module

public import proofs.«01_k».proof.Proof.KiRun
public import proofs.«01_k».proof.Proof.Gen.ReferenceIdeal
public import Idealize.ShloMosaic.Lib.Pointwise
public import Idealize.ShloMosaic.Lib.Layout

@[expose] public section

noncomputable section

namespace Cert.KernelIdeal.Value

open Idealize.ShloMosaic Idealize.ShloMosaic.TcCoe
open Cert.KernelIdeal Cert.KernelIdeal.Gen Cert.KernelIdeal.Exchange
open Cert.ReferenceIdeal (S768x2048 S2048)

/-! ## Scalars -/

/-- The count of columns, and epsilon, as both programs write them. -/
abbrev cols : EReal := Ideal.ofBits .f32 0x45000000#32
abbrev eps : EReal := Ideal.ofBits .f32 0x3727C5AC#32

theorem cols_eq : cols = ((2048 : ℝ) : EReal) := by
  unfold cols
  simp [Ideal.ofBits, Ideal.ieee, -EReal.coe_mul]; norm_num
theorem eps_pos : 0 < eps := by
  unfold eps
  simp [Ideal.ofBits, Ideal.ieee, -EReal.coe_mul]

/-- A square is not negative. -/
theorem sq_nonneg' (a : EReal) : 0 ≤ a * a := by
  rcases le_total 0 a with h | h
  · exact mul_nonneg h h
  · have h' : 0 ≤ -a * -a := mul_nonneg (EReal.neg_nonneg.mpr h) (EReal.neg_nonneg.mpr h)
    rwa [EReal.neg_mul, mul_comm, EReal.neg_mul, neg_neg] at h'

/-- What the root is taken of, for a row whose squares sum to `s`. -/
def arg (s : EReal) : EReal := Ideal.div s cols + eps

theorem arg_pos {s : EReal} (h : 0 ≤ s) : 0 < arg s := by
  unfold arg
  rw [cols_eq, Ideal.div_coe (by norm_num)]
  exact lt_of_lt_of_le eps_pos (le_add_of_nonneg_left (mul_nonneg h (EReal.coe_nonneg.mpr (by norm_num))))

/-- Multiplying by the reciprocal root of a positive number is dividing by its root. -/
theorem mul_rsqrt (a : EReal) {y : EReal} (h : 0 < y) : a * Ideal.rsqrt y = Ideal.div a (Ideal.sqrt y) := by
  induction y with
  | bot => exact absurd h (by simp)
  | top => rw [Ideal.rsqrt_top, Ideal.sqrt_top]; unfold Ideal.div; rw [if_neg (by simp), EReal.inv_top]
  | coe r =>
    have hr : 0 < r := EReal.coe_pos.mp h
    have hs : Real.sqrt r ≠ 0 := (Real.sqrt_pos.mpr hr).ne'
    rw [Ideal.rsqrt_coe, Ideal.sqrt_coe, if_neg hr.le.not_gt, if_neg hr.le.not_gt, if_neg hr.ne', Ideal.div_coe hs, one_div]

/-! ## The result over the whole arrays -/

variable (X : S768x2048.Idx → EReal) (Γ : S2048.Idx → EReal)

/-- The sum of squares of row `r`. -/
def rowSq (r : Fin 768) : EReal := ∑ k : Fin 2048, X (ix2 r k) * X (ix2 r k)

theorem rowSq_nonneg (r : Fin 768) : 0 ≤ rowSq X r := Finset.sum_nonneg fun k _ => sq_nonneg' _

/-- The normed array: `gamma · x` over the root of the row's mean square plus epsilon. -/
def normed : S768x2048.Idx → EReal := fun j =>
  Ideal.div (Γ (ix1 (j 1)) * X (ix2 (j 0) (j 1))) (Ideal.sqrt (arg (rowSq X (j 0))))

/-- A row's sum of squares, block of columns by block of columns. -/
theorem rowSq_blocks (r : Fin 768) :
    rowSq X r = ∑ d : Fin 4, ∑ k : Fin 512, X (ix2 r ⟨d.val * 512 + k.val, by omega⟩) * X (ix2 r ⟨d.val * 512 + k.val, by omega⟩) :=
  Fin.sum_univ_tiles 4 512 rfl _

/-! ## The kernel's payloads, element by element -/

/-- A device's partial sums of squares. -/
theorem pay3_apply (x : S768x512.Idx → EReal) (r : Fin 768) :
    (k0_pay3 (F := Ideal) x : FVec Ideal S1x1x768 .f32) (ix3 0 0 r) = ∑ k : Fin 512, x (ix2 r k) * x (ix2 r k) := by
  pointwise [k0_pay3, k0_pay2]

/-- An element of the stored block: the product of `x` and `gamma` by the reciprocal root. -/
theorem pay1_apply (x : S768x512.Idx → EReal) (g : S512.Idx → EReal) (ρ : S4x1x768.Idx → EReal) (r : Fin 768) (l : Fin 512) :
    (k0_pay1 (F := Ideal) (k0_pay4 (k0_pay2 (F := Ideal) x) g) ρ : FVec Ideal S768x512 .f32) (ix2 r l)
      = x (ix2 r l) * g (ix1 l) * Ideal.rsqrt (arg (∑ d : Fin 4, ρ (ix3 d 0 r))) := by
  unfold arg
  pointwise [k0_pay1, k0_pay4, k0_pay2]

/-! ## The block a device stores -/

variable (m : (ℓ : Loc nD τ sig) → Buf (Elt Ideal) ℓ)

/-- The staged block of `x`, that of `gamma` and the four rows, as functions of their indices. -/
abbrev xs (c : Dev nD) : S768x512.Idx → EReal := xstg m c
abbrev gs (c : Dev nD) : S512.Idx → EReal := gstg m c
abbrev rs (c : Dev nD) : S4x1x768.Idx → EReal := rows m c

/-- The row of number `d` holds the partial sums of the device `d` places after. -/
theorem rows_apply (c : Dev nD) (d : Fin 4) (r : Fin 768) :
    rs m c (ix3 d 0 r) = ∑ k : Fin 512, xs m (rot c d) (ix2 r k) * xs m (rot c d) (ix2 r k) := by
  rw [← pay3_apply]
  unfold rs rows
  refine congrArg (k0_pay3 (F := Ideal) (xstg m (rot c d)) : S1x1x768.Idx → EReal) ?_
  funext a
  match a with
  | ⟨0, _⟩ => rfl
  | ⟨1, _⟩ => rfl
  | ⟨2, _⟩ => rfl

/-- The devices at distance 0, 1, 2, 3 from `c` are all devices. -/
theorem rot_bijective (c : Dev nD) : Function.Bijective (rot c) :=
  Finite.injective_iff_bijective.mp (by revert c; decide)

/-- The array of `x` is staged whole, -/
theorem xstg_eq (c : Dev nD) : xstg m c = m ((c : Thread nD τ).loc main_arg0) :=
  Memref.read_access_unit_zero (Elt Ideal) main_arg0 (funext fun a => by fin_cases a <;> decide) (fun a => by fin_cases a <;> decide) _
/-- and so is that of `gamma`. -/
theorem gstg_eq (c : Dev nD) : gstg m c = m ((c : Thread nD τ).loc main_arg1) :=
  Memref.read_access_unit_zero (Elt Ideal) main_arg1 (funext fun a => by fin_cases a <;> decide) (fun a => by fin_cases a <;> decide) _

/-- The block stored on device `c` is its block of the normed array. -/
theorem outAt_eq
    (hx : ∀ c : Dev nD, m ((c : Thread nD τ).loc main_arg0) = Layout.block ⟨2, ![768, 512]⟩ ⟨2, ![768, 2048]⟩ 1 4 c X)
    (hg : ∀ c : Dev nD, m ((c : Thread nD τ).loc main_arg1) = Layout.block ⟨1, ![512]⟩ ⟨1, ![2048]⟩ 0 4 c Γ) (c : Dev nD) :
    outAt m c = Layout.block ⟨2, ![768, 512]⟩ ⟨2, ![768, 2048]⟩ 1 4 c (normed X Γ) := by
  have hX (c' : Dev nD) (r : Fin 768) (k : Fin 512) :
      xs m c' (ix2 r k) = X (ix2 r ⟨c'.val * 512 + k.val, by have : c'.val < 4 := c'.isLt; omega⟩) := by
    rw [xs, xstg_eq, hx]
    refine congrArg X (funext fun a => Fin.ext ?_)
    match a with
    | ⟨0, _⟩ => rfl
    | ⟨1, _⟩ => rfl
  have hG (l : Fin 512) :
      gs m c (ix1 l) = Γ (ix1 ⟨c.val * 512 + l.val, by have : c.val < 4 := c.isLt; omega⟩) := by
    rw [gs, gstg_eq, hg]
    refine congrArg Γ (funext fun a => Fin.ext ?_)
    match a with
    | ⟨0, _⟩ => rfl
  have hS (r : Fin 768) : ∑ d : Fin 4, rs m c (ix3 d 0 r) = rowSq X r := by
    rw [rowSq_blocks]
    simp only [rows_apply, hX]
    exact Fintype.sum_bijective (rot c) (rot_bijective c) _ (fun c' : Dev nD => ∑ k : Fin 512,
      X (ix2 r ⟨c'.val * 512 + k.val, by have : c'.val < 4 := c'.isLt; omega⟩) * X (ix2 r ⟨c'.val * 512 + k.val, by have : c'.val < 4 := c'.isLt; omega⟩)) fun d => rfl
  funext j
  obtain ⟨r, l, rfl⟩ : ∃ (r : Fin 768) (l : Fin 512), j = ix2 r l := ⟨j 0, j 1, funext fun a => by fin_cases a <;> rfl⟩
  refine (pay1_apply (xs m c) (gs m c) (rs m c) r l).trans ?_
  rw [hS, hX, hG, mul_rsqrt _ (arg_pos (rowSq_nonneg X r)), mul_comm (X _)]
  rfl

/-- The array of the result after the run is what the body stored. -/
theorem end_result (c : Dev nD) : (dats m 0 c).arrAt (2 : Fin 3) cfg0.N = outAt m c := by
  have hflush := (dats m 0 c).arrAt_succ (2 : Fin 3) (0 : Fin 1)
  rw [if_pos (by decide)] at hflush
  have hwhole := Memref.read_access_unit_zero (Elt Ideal) main_v1 (off := fun a => win0_2.index (0 : Fin 1) a * main_v1.ty.shape.size a)
    (funext fun a => by fin_cases a <;> decide) (fun a => by fin_cases a <;> decide)
  exact (hwhole _).symm.trans ((congrArg ((win0_2.blk (0 : Fin 1)).view.read (Elt Ideal)) hflush).trans (View.read_write_univ _ _))

end Cert.KernelIdeal.Value
end
-- ==== Proof.Claims.lean ====
/-
# The five claims

The frames of the kernel and of its idealization are one run, since the two are printed as the same text; the
reference's frame is its run on one device; no operation was replaced in the idealization; and the kernel's blocks are the blocks of the
reference's result.
-/
module

public import proofs.«01_k».proof.Defs
public import proofs.«01_k».proof.Proof.KiValue
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

local instance kernelFacts : Cert.Kernel.Facts := Cert.Kernel.Gen.facts

/-! ## The kernel as printed and its idealization are one program -/

/-- The two tables of bodies are the same, -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | 0, (t, p) => rfl

/-- and so are the two tables of everything a program may call. -/
theorem defs_eq {F : FTy → Type} [FloatOps F] : Cert.Kernel.defs (F := F) = Cert.KernelIdeal.defs (F := F) :=
  congrArg (Pipeline.defs (Cert.KernelIdeal.pcfgs (F := F))) bodies_eq

/-- The kernel on its own bits: it ends, its arguments unchanged, every counter at zero. -/
theorem frame_kernel : Cert.quiescent_Kernel (hKernel := Cert.Kernel.Gen.facts) := fun m g _ => by
  have h := Cert.KernelIdeal.Exchange.run_args (F := Bits) m g
  rw [← defs_eq] at h
  exact h

/-- The same over the extended reals. -/
theorem frame_kernelIdeal : Cert.quiescent_KernelIdeal (hKernelIdeal := Cert.KernelIdeal.Gen.facts) := fun m g _ =>
  Cert.KernelIdeal.Exchange.run_args (F := Ideal) m g

/-- The reference ends with its arguments unchanged; it has no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-! ## The values -/

section Reference
open Cert.ReferenceIdeal Cert.ReferenceIdeal.Gen Cert.KernelIdeal.Value

/-- What the reference computes of whole arrays is the normed array. -/
theorem reference_eq (X : S768x2048.Idx → EReal) (Γ : S2048.Idx → EReal) :
    (Host.divf (mulf (broadcastInDim S768x2048 ![0, 1] bcast_S1x2048_S768x2048_0_1
          (broadcastInDim S1x2048 ![1] bcast_S2048_S1x2048_1 (extf (F := Ideal) (φ := .bf16) .f32 Γ bitsLt_bf16_f32)))
        (extf (F := Ideal) (φ := .bf16) .f32 X bitsLt_bf16_f32))
      (broadcastInDim S768x2048 ![0, 1] bcast_S768x1_S768x2048_0_1
        (Host.sqrt (addf (Host.divf
            (broadcastInDim S768x1 ![0] bcast_S768_S768x1_0
              (Host.reduceAdd (mulf (extf (F := Ideal) (φ := .bf16) .f32 X bitsLt_bf16_f32) (extf (F := Ideal) (φ := .bf16) .f32 X bitsLt_bf16_f32))
                (constant S_ .f32 0x00000000#32) reducesTo_S768x2048_S768_d1 h_S_))
            (broadcastInDim S768x1 ![] bcast_S_S768x1 (constant S_ .f32 0x45000000#32)))
          (broadcastInDim S768x1 ![] bcast_S_S768x1 (constant S_ .f32 0x3727C5AC#32)))))
      : FVec Ideal S768x2048 .f32) = normed X Γ := by
  funext j
  unfold normed arg rowSq
  pointwise

end Reference

/-- Each device's result is its block of the reference's result, whatever the arguments. -/
theorem value : Cert.algebraic_KernelIdeal_ReferenceIdeal
    (hKernelIdeal := Cert.KernelIdeal.Gen.facts) (hReferenceIdeal := Cert.ReferenceIdeal.Gen.facts) := by
  intro m g m' g' _ hm
  refine ⟨Cert.KernelIdeal.Value.normed
    (m' (((0 : Dev Cert.ReferenceIdeal.nD) : Thread Cert.ReferenceIdeal.nD Cert.ReferenceIdeal.τ).loc Cert.ReferenceIdeal.main_arg0))
    (m' (((0 : Dev Cert.ReferenceIdeal.nD) : Thread Cert.ReferenceIdeal.nD Cert.ReferenceIdeal.τ).loc Cert.ReferenceIdeal.main_arg1)), ?_, ?_⟩
  · refine (θ_run Cert.KernelIdeal.defs _ _).mono (fun r h c => ⟨?_, ?_, ?_⟩) (Cert.KernelIdeal.Exchange.run_main (F := Ideal) m g)
    · exact ((h.1 c (2 : Fin 3)).trans (Cert.KernelIdeal.Value.end_result m c)).trans
        (Cert.KernelIdeal.Value.outAt_eq _ _ m (fun c => (hm c).1) (fun c => (hm c).2) c)
    · exact (h.1 c (0 : Fin 3)).trans (Cert.KernelIdeal.Exchange.end_x m c)
    · exact (h.1 c (1 : Fin 3)).trans (Cert.KernelIdeal.Exchange.end_gamma m c)
  · exact (θ_run Cert.ReferenceIdeal.defs _ _).mono (fun r h => ⟨(h 0).1.trans (reference_eq _ _), (h 0).2⟩)
      (Cert.ReferenceIdeal.Value.run (F := Ideal) m' g')

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

/-- Everything the certificate claims. -/
theorem claim : Cert.Claim := ⟨Cert.Kernel.Gen.facts, Cert.KernelIdeal.Gen.facts, Cert.ReferenceIdeal.Gen.facts,
  frame_kernel, frame_kernelIdeal, frame_reference, trivial, value⟩

end Cert.Proof

end
